-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : FVec F S1024x1024 .f32) (main_arg1 : FVec F S1024x1024 .f32) (main_arg2 : FVec F S1024x1024 .f32) (main_arg3 : FVec F S1024x1024 .f32) (main_arg4 : FVec F S1024x1024 .f32) : IVec S1024x1024 1 × IVec S1024x1024 1 × IVec S1024x1024 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_finite_ReferenceIdeal.lean ====
abbrev S1024x1024 : Shape := ⟨2, ![1024, 1024]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S1024x1024 .f32) (main_arg1 : FVec F S1024x1024 .f32) (main_arg2 : FVec F S8192x1024 .f32) (main_arg3 : FVec F S8192x1024 .f32) (main_arg4 : FVec F S1024x1024 .f32) : IVec S1024x1024 1 × IVec S1024x1024 1 × IVec S8192x1024 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S1024x1024 : Shape := ⟨2, ![1024, 1024]⟩
abbrev S128x1024 : Shape := ⟨2, ![128, 1024]⟩
abbrev S8x128x1024 : Shape := ⟨3, ![8, 128, 1024]⟩
abbrev S2 : Shape := ⟨1, ![2]⟩
abbrev S7 : Shape := ⟨1, ![7]⟩
abbrev S_ : Shape := ⟨0, ![]⟩
abbrev S8 : Shape := ⟨1, ![8]⟩
abbrev S1 : Shape := ⟨1, ![1]⟩
abbrev S128x384 : Shape := ⟨2, ![128, 384]⟩
abbrev S384x1024 : Shape := ⟨2, ![384, 1024]⟩
abbrev S128x128 : Shape := ⟨2, ![128, 128]⟩
abbrev S384x128 : Shape := ⟨2, ![384, 128]⟩
abbrev S128 : Shape := ⟨1, ![128]⟩
abbrev S128x1 : Shape := ⟨2, ![128, 1]⟩
abbrev S256x1024 : Shape := ⟨2, ![256, 1024]⟩
abbrev S1x128x1024 : Shape := ⟨3, ![1, 128, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S8x128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 1 := Scalar.cmpi .eq v2 c1_i32_29
  let v33 : BitVec 32 := Scalar.extui v32
  let c0_i32_30 : BitVec 32 := 0#32
  let v34 : BitVec 1 := Scalar.cmpi .ne v33 c0_i32_30
  v34

def k0_dev8 : Nat :=
  let c0_i32_62 : BitVec 32 := 0#32
  let c0_i32_60 : BitVec 32 := 0#32
  let c1_i32_61 : BitVec 32 := 1#32
  let v75 : BitVec 32 := Scalar.muli c0_i32_60 c1_i32_61
  let v76 : BitVec 32 := Scalar.addi c0_i32_62 v75
  v76.toNat
def k0_dev9 : Nat :=
  let c0_i32_69 : BitVec 32 := 0#32
  let c0_i32_67 : BitVec 32 := 0#32
  let c1_i32_68 : BitVec 32 := 1#32
  let v82 : BitVec 32 := Scalar.muli c0_i32_67 c1_i32_68
  let v83 : BitVec 32 := Scalar.addi c0_i32_69 v82
  v83.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_31 : BitVec 32 := 0#32
  let v35 : BitVec 1 := Scalar.cmpi .eq v2 c0_i32_31
  let v36 : BitVec 32 := Scalar.extui v35
  let c0_i32_32 : BitVec 32 := 0#32
  let v37 : BitVec 1 := Scalar.cmpi .ne v36 c0_i32_32
  v37

def k0_dev10 : Nat :=
  let c0_i32_126 : BitVec 32 := 0#32
  let c1_i32_124 : BitVec 32 := 1#32
  let c1_i32_125 : BitVec 32 := 1#32
  let v236 : BitVec 32 := Scalar.muli c1_i32_124 c1_i32_125
  let v237 : BitVec 32 := Scalar.addi c0_i32_126 v236
  v237.toNat
def k0_dev11 : Nat :=
  let c0_i32_194 : BitVec 32 := 0#32
  let c2_i32_192 : BitVec 32 := 2#32
  let c1_i32_193 : BitVec 32 := 1#32
  let v382 : BitVec 32 := Scalar.muli c2_i32_192 c1_i32_193
  let v383 : BitVec 32 := Scalar.addi c0_i32_194 v382
  v383.toNat
def k0_dev12 : Nat :=
  let c0_i32_261 : BitVec 32 := 0#32
  let c3_i32_259 : BitVec 32 := 3#32
  let c1_i32_260 : BitVec 32 := 1#32
  let v528 : BitVec 32 := Scalar.muli c3_i32_259 c1_i32_260
  let v529 : BitVec 32 := Scalar.addi c0_i32_261 v528
  v529.toNat
def k0_dev13 : Nat :=
  let c0_i32_328 : BitVec 32 := 0#32
  let c4_i32_326 : BitVec 32 := 4#32
  let c1_i32_327 : BitVec 32 := 1#32
  let v674 : BitVec 32 := Scalar.muli c4_i32_326 c1_i32_327
  let v675 : BitVec 32 := Scalar.addi c0_i32_328 v674
  v675.toNat
def k0_dev14 : Nat :=
  let c0_i32_395 : BitVec 32 := 0#32
  let c5_i32_393 : BitVec 32 := 5#32
  let c1_i32_394 : BitVec 32 := 1#32
  let v820 : BitVec 32 := Scalar.muli c5_i32_393 c1_i32_394
  let v821 : BitVec 32 := Scalar.addi c0_i32_395 v820
  v821.toNat
def k0_dev15 : Nat :=
  let c0_i32_462 : BitVec 32 := 0#32
  let c6_i32_460 : BitVec 32 := 6#32
  let c1_i32_461 : BitVec 32 := 1#32
  let v966 : BitVec 32 := Scalar.muli c6_i32_460 c1_i32_461
  let v967 : BitVec 32 := Scalar.addi c0_i32_462 v966
  v967.toNat
def k0_dev16 : Nat :=
  let c0_i32_547 : BitVec 32 := 0#32
  let c7_i32_545 : BitVec 32 := 7#32
  let c1_i32_546 : BitVec 32 := 1#32
  let v1126 : BitVec 32 := Scalar.muli c7_i32_545 c1_i32_546
  let v1127 : BitVec 32 := Scalar.addi c0_i32_547 v1126
  v1127.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v45 : BitVec 32 := Scalar.muli v2 c128_i32
  let v46 : Index := Scalar.indexCast v45
  let c0_38 : Index := 0#32
  ![v46.toNat, 0]
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_42 : BitVec 32 := 0#32
  let v51 : BitVec 1 := Scalar.cmpi .eq v2 c0_i32_42
  let v52 : BitVec 32 := Scalar.extui v51
  let c0_i32_43 : BitVec 32 := 0#32
  let v53 : BitVec 1 := Scalar.cmpi .ne v52 c0_i32_43
  v53

def k0_dev17 : Nat :=
  let c0_i32_64 : BitVec 32 := 0#32
  let c1_i32_62 : BitVec 32 := 1#32
  let c1_i32_63 : BitVec 32 := 1#32
  let v75 : BitVec 32 := Scalar.muli c1_i32_62 c1_i32_63
  let v76 : BitVec 32 := Scalar.addi c0_i32_64 v75
  v76.toNat
def k0_dev18 : Nat :=
  let c0_i32_75 : BitVec 32 := 0#32
  let c3_i32_73 : BitVec 32 := 3#32
  let c1_i32_74 : BitVec 32 := 1#32
  let v85 : BitVec 32 := Scalar.muli c3_i32_73 c1_i32_74
  let v86 : BitVec 32 := Scalar.addi c0_i32_75 v85
  v86.toNat
def k0_dev19 : Nat :=
  let c0_i32_86 : BitVec 32 := 0#32
  let c4_i32_84 : BitVec 32 := 4#32
  let c1_i32_85 : BitVec 32 := 1#32
  let v95 : BitVec 32 := Scalar.muli c4_i32_84 c1_i32_85
  let v96 : BitVec 32 := Scalar.addi c0_i32_86 v95
  v96.toNat
def k0_dev20 : Nat :=
  let c0_i32_108 : BitVec 32 := 0#32
  let c3_i32_106 : BitVec 32 := 3#32
  let c1_i32_107 : BitVec 32 := 1#32
  let v113 : BitVec 32 := Scalar.muli c3_i32_106 c1_i32_107
  let v114 : BitVec 32 := Scalar.addi c0_i32_108 v113
  v114.toNat
def k0_dev21 : Nat :=
  let c0_i32_119 : BitVec 32 := 0#32
  let c4_i32_117 : BitVec 32 := 4#32
  let c1_i32_118 : BitVec 32 := 1#32
  let v123 : BitVec 32 := Scalar.muli c4_i32_117 c1_i32_118
  let v124 : BitVec 32 := Scalar.addi c0_i32_119 v123
  v124.toNat
def k0_dev22 : Nat :=
  let c0_i32_158 : BitVec 32 := 0#32
  let c4_i32_156 : BitVec 32 := 4#32
  let c1_i32_157 : BitVec 32 := 1#32
  let v155 : BitVec 32 := Scalar.muli c4_i32_156 c1_i32_157
  let v156 : BitVec 32 := Scalar.addi c0_i32_158 v155
  v156.toNat
def k0_dev23 : Nat :=
  let c0_i32_183 : BitVec 32 := 0#32
  let c2_i32_181 : BitVec 32 := 2#32
  let c1_i32_182 : BitVec 32 := 1#32
  let v176 : BitVec 32 := Scalar.muli c2_i32_181 c1_i32_182
  let v177 : BitVec 32 := Scalar.addi c0_i32_183 v176
  v177.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_44 : BitVec 32 := 1#32
  let v54 : BitVec 1 := Scalar.cmpi .eq v2 c1_i32_44
  let v55 : BitVec 32 := Scalar.extui v54
  let c0_i32_45 : BitVec 32 := 0#32
  let v56 : BitVec 1 := Scalar.cmpi .ne v55 c0_i32_45
  v56

def k0_dev24 : Nat :=
  let c0_i32_64 : BitVec 32 := 0#32
  let c0_i32_62 : BitVec 32 := 0#32
  let c1_i32_63 : BitVec 32 := 1#32
  let v75 : BitVec 32 := Scalar.muli c0_i32_62 c1_i32_63
  let v76 : BitVec 32 := Scalar.addi c0_i32_64 v75
  v76.toNat
def k0_dev25 : Nat :=
  let c0_i32_75 : BitVec 32 := 0#32
  let c2_i32_73 : BitVec 32 := 2#32
  let c1_i32_74 : BitVec 32 := 1#32
  let v85 : BitVec 32 := Scalar.muli c2_i32_73 c1_i32_74
  let v86 : BitVec 32 := Scalar.addi c0_i32_75 v85
  v86.toNat
def k0_dev26 : Nat :=
  let c0_i32_86 : BitVec 32 := 0#32
  let c5_i32_84 : BitVec 32 := 5#32
  let c1_i32_85 : BitVec 32 := 1#32
  let v95 : BitVec 32 := Scalar.muli c5_i32_84 c1_i32_85
  let v96 : BitVec 32 := Scalar.addi c0_i32_86 v95
  v96.toNat
def k0_dev27 : Nat :=
  let c0_i32_108 : BitVec 32 := 0#32
  let c5_i32_106 : BitVec 32 := 5#32
  let c1_i32_107 : BitVec 32 := 1#32
  let v113 : BitVec 32 := Scalar.muli c5_i32_106 c1_i32_107
  let v114 : BitVec 32 := Scalar.addi c0_i32_108 v113
  v114.toNat
def k0_dev28 : Nat :=
  let c0_i32_161 : BitVec 32 := 0#32
  let c3_i32_159 : BitVec 32 := 3#32
  let c1_i32_160 : BitVec 32 := 1#32
  let v156 : BitVec 32 := Scalar.muli c3_i32_159 c1_i32_160
  let v157 : BitVec 32 := Scalar.addi c0_i32_161 v156
  v157.toNat
def k0_dev29 : Nat :=
  let c0_i32_214 : BitVec 32 := 0#32
  let c2_i32_212 : BitVec 32 := 2#32
  let c1_i32_213 : BitVec 32 := 1#32
  let v199 : BitVec 32 := Scalar.muli c2_i32_212 c1_i32_213
  let v200 : BitVec 32 := Scalar.addi c0_i32_214 v199
  v200.toNat
def k0_dev30 : Nat :=
  let c0_i32_225 : BitVec 32 := 0#32
  let c5_i32_223 : BitVec 32 := 5#32
  let c1_i32_224 : BitVec 32 := 1#32
  let v209 : BitVec 32 := Scalar.muli c5_i32_223 c1_i32_224
  let v210 : BitVec 32 := Scalar.addi c0_i32_225 v209
  v210.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v57 : BitVec 1 := Scalar.cmpi .eq v2 c2_i32_46
  let v58 : BitVec 32 := Scalar.extui v57
  let c0_i32_47 : BitVec 32 := 0#32
  let v59 : BitVec 1 := Scalar.cmpi .ne v58 c0_i32_47
  v59

def k0_dev31 : Nat :=
  let c0_i32_64 : BitVec 32 := 0#32
  let c3_i32_62 : BitVec 32 := 3#32
  let c1_i32_63 : BitVec 32 := 1#32
  let v75 : BitVec 32 := Scalar.muli c3_i32_62 c1_i32_63
  let v76 : BitVec 32 := Scalar.addi c0_i32_64 v75
  v76.toNat
def k0_dev32 : Nat :=
  let c0_i32_75 : BitVec 32 := 0#32
  let c1_i32_73 : BitVec 32 := 1#32
  let c1_i32_74 : BitVec 32 := 1#32
  let v85 : BitVec 32 := Scalar.muli c1_i32_73 c1_i32_74
  let v86 : BitVec 32 := Scalar.addi c0_i32_75 v85
  v86.toNat
def k0_dev33 : Nat :=
  let c0_i32_86 : BitVec 32 := 0#32
  let c6_i32_84 : BitVec 32 := 6#32
  let c1_i32_85 : BitVec 32 := 1#32
  let v95 : BitVec 32 := Scalar.muli c6_i32_84 c1_i32_85
  let v96 : BitVec 32 := Scalar.addi c0_i32_86 v95
  v96.toNat
def k0_dev34 : Nat :=
  let c0_i32_108 : BitVec 32 := 0#32
  let c6_i32_106 : BitVec 32 := 6#32
  let c1_i32_107 : BitVec 32 := 1#32
  let v113 : BitVec 32 := Scalar.muli c6_i32_106 c1_i32_107
  let v114 : BitVec 32 := Scalar.addi c0_i32_108 v113
  v114.toNat
def k0_dev35 : Nat :=
  let c0_i32_133 : BitVec 32 := 0#32
  let c1_i32_131 : BitVec 32 := 1#32
  let c1_i32_132 : BitVec 32 := 1#32
  let v134 : BitVec 32 := Scalar.muli c1_i32_131 c1_i32_132
  let v135 : BitVec 32 := Scalar.addi c0_i32_133 v134
  v135.toNat
def k0_dev36 : Nat :=
  let c0_i32_144 : BitVec 32 := 0#32
  let c6_i32_142 : BitVec 32 := 6#32
  let c1_i32_143 : BitVec 32 := 1#32
  let v144 : BitVec 32 := Scalar.muli c6_i32_142 c1_i32_143
  let v145 : BitVec 32 := Scalar.addi c0_i32_144 v144
  v145.toNat
def k0_dev37 : Nat :=
  let c0_i32_197 : BitVec 32 := 0#32
  let c0_i32_195 : BitVec 32 := 0#32
  let c1_i32_196 : BitVec 32 := 1#32
  let v187 : BitVec 32 := Scalar.muli c0_i32_195 c1_i32_196
  let v188 : BitVec 32 := Scalar.addi c0_i32_197 v187
  v188.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_48 : BitVec 32 := 3#32
  let v60 : BitVec 1 := Scalar.cmpi .eq v2 c3_i32_48
  let v61 : BitVec 32 := Scalar.extui v60
  let c0_i32_49 : BitVec 32 := 0#32
  let v62 : BitVec 1 := Scalar.cmpi .ne v61 c0_i32_49
  v62

def k0_dev38 : Nat :=
  let c0_i32_64 : BitVec 32 := 0#32
  let c2_i32_62 : BitVec 32 := 2#32
  let c1_i32_63 : BitVec 32 := 1#32
  let v75 : BitVec 32 := Scalar.muli c2_i32_62 c1_i32_63
  let v76 : BitVec 32 := Scalar.addi c0_i32_64 v75
  v76.toNat
def k0_dev39 : Nat :=
  let c0_i32_75 : BitVec 32 := 0#32
  let c0_i32_73 : BitVec 32 := 0#32
  let c1_i32_74 : BitVec 32 := 1#32
  let v85 : BitVec 32 := Scalar.muli c0_i32_73 c1_i32_74
  let v86 : BitVec 32 := Scalar.addi c0_i32_75 v85
  v86.toNat
def k0_dev40 : Nat :=
  let c0_i32_86 : BitVec 32 := 0#32
  let c7_i32_84 : BitVec 32 := 7#32
  let c1_i32_85 : BitVec 32 := 1#32
  let v95 : BitVec 32 := Scalar.muli c7_i32_84 c1_i32_85
  let v96 : BitVec 32 := Scalar.addi c0_i32_86 v95
  v96.toNat
def k0_dev41 : Nat :=
  let c0_i32_122 : BitVec 32 := 0#32
  let c0_i32_120 : BitVec 32 := 0#32
  let c1_i32_121 : BitVec 32 := 1#32
  let v124 : BitVec 32 := Scalar.muli c0_i32_120 c1_i32_121
  let v125 : BitVec 32 := Scalar.addi c0_i32_122 v124
  v125.toNat
def k0_dev42 : Nat :=
  let c0_i32_133 : BitVec 32 := 0#32
  let c7_i32_131 : BitVec 32 := 7#32
  let c1_i32_132 : BitVec 32 := 1#32
  let v134 : BitVec 32 := Scalar.muli c7_i32_131 c1_i32_132
  let v135 : BitVec 32 := Scalar.addi c0_i32_133 v134
  v135.toNat
def k0_dev43 : Nat :=
  let c0_i32_200 : BitVec 32 := 0#32
  let c1_i32_198 : BitVec 32 := 1#32
  let c1_i32_199 : BitVec 32 := 1#32
  let v188 : BitVec 32 := Scalar.muli c1_i32_198 c1_i32_199
  let v189 : BitVec 32 := Scalar.addi c0_i32_200 v188
  v189.toNat
def k0_dev44 : Nat :=
  let c0_i32_225 : BitVec 32 := 0#32
  let c7_i32_223 : BitVec 32 := 7#32
  let c1_i32_224 : BitVec 32 := 1#32
  let v209 : BitVec 32 := Scalar.muli c7_i32_223 c1_i32_224
  let v210 : BitVec 32 := Scalar.addi c0_i32_225 v209
  v210.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_50 : BitVec 32 := 4#32
  let v63 : BitVec 1 := Scalar.cmpi .eq v2 c4_i32_50
  let v64 : BitVec 32 := Scalar.extui v63
  let c0_i32_51 : BitVec 32 := 0#32
  let v65 : BitVec 1 := Scalar.cmpi .ne v64 c0_i32_51
  v65

def k0_dev45 : Nat :=
  let c0_i32_64 : BitVec 32 := 0#32
  let c5_i32_62 : BitVec 32 := 5#32
  let c1_i32_63 : BitVec 32 := 1#32
  let v75 : BitVec 32 := Scalar.muli c5_i32_62 c1_i32_63
  let v76 : BitVec 32 := Scalar.addi c0_i32_64 v75
  v76.toNat
def k0_dev46 : Nat :=
  let c0_i32_75 : BitVec 32 := 0#32
  let c7_i32_73 : BitVec 32 := 7#32
  let c1_i32_74 : BitVec 32 := 1#32
  let v85 : BitVec 32 := Scalar.muli c7_i32_73 c1_i32_74
  let v86 : BitVec 32 := Scalar.addi c0_i32_75 v85
  v86.toNat
def k0_dev47 : Nat :=
  let c0_i32_86 : BitVec 32 := 0#32
  let c0_i32_84 : BitVec 32 := 0#32
  let c1_i32_85 : BitVec 32 := 1#32
  let v95 : BitVec 32 := Scalar.muli c0_i32_84 c1_i32_85
  let v96 : BitVec 32 := Scalar.addi c0_i32_86 v95
  v96.toNat
def k0_dev48 : Nat :=
  let c0_i32_150 : BitVec 32 := 0#32
  let c7_i32_148 : BitVec 32 := 7#32
  let c1_i32_149 : BitVec 32 := 1#32
  let v146 : BitVec 32 := Scalar.muli c7_i32_148 c1_i32_149
  let v147 : BitVec 32 := Scalar.addi c0_i32_150 v146
  v147.toNat
def k0_dev49 : Nat :=
  let c0_i32_161 : BitVec 32 := 0#32
  let c0_i32_159 : BitVec 32 := 0#32
  let c1_i32_160 : BitVec 32 := 1#32
  let v156 : BitVec 32 := Scalar.muli c0_i32_159 c1_i32_160
  let v157 : BitVec 32 := Scalar.addi c0_i32_161 v156
  v157.toNat
def k0_dev50 : Nat :=
  let c0_i32_200 : BitVec 32 := 0#32
  let c0_i32_198 : BitVec 32 := 0#32
  let c1_i32_199 : BitVec 32 := 1#32
  let v188 : BitVec 32 := Scalar.muli c0_i32_198 c1_i32_199
  let v189 : BitVec 32 := Scalar.addi c0_i32_200 v188
  v189.toNat
def k0_dev51 : Nat :=
  let c0_i32_225 : BitVec 32 := 0#32
  let c6_i32_223 : BitVec 32 := 6#32
  let c1_i32_224 : BitVec 32 := 1#32
  let v209 : BitVec 32 := Scalar.muli c6_i32_223 c1_i32_224
  let v210 : BitVec 32 := Scalar.addi c0_i32_225 v209
  v210.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_52 : BitVec 32 := 5#32
  let v66 : BitVec 1 := Scalar.cmpi .eq v2 c5_i32_52
  let v67 : BitVec 32 := Scalar.extui v66
  let c0_i32_53 : BitVec 32 := 0#32
  let v68 : BitVec 1 := Scalar.cmpi .ne v67 c0_i32_53
  v68

def k0_dev52 : Nat :=
  let c0_i32_64 : BitVec 32 := 0#32
  let c4_i32_62 : BitVec 32 := 4#32
  let c1_i32_63 : BitVec 32 := 1#32
  let v75 : BitVec 32 := Scalar.muli c4_i32_62 c1_i32_63
  let v76 : BitVec 32 := Scalar.addi c0_i32_64 v75
  v76.toNat
def k0_dev53 : Nat :=
  let c0_i32_75 : BitVec 32 := 0#32
  let c6_i32_73 : BitVec 32 := 6#32
  let c1_i32_74 : BitVec 32 := 1#32
  let v85 : BitVec 32 := Scalar.muli c6_i32_73 c1_i32_74
  let v86 : BitVec 32 := Scalar.addi c0_i32_75 v85
  v86.toNat
def k0_dev54 : Nat :=
  let c0_i32_86 : BitVec 32 := 0#32
  let c1_i32_84 : BitVec 32 := 1#32
  let c1_i32_85 : BitVec 32 := 1#32
  let v95 : BitVec 32 := Scalar.muli c1_i32_84 c1_i32_85
  let v96 : BitVec 32 := Scalar.addi c0_i32_86 v95
  v96.toNat
def k0_dev55 : Nat :=
  let c0_i32_108 : BitVec 32 := 0#32
  let c7_i32_106 : BitVec 32 := 7#32
  let c1_i32_107 : BitVec 32 := 1#32
  let v113 : BitVec 32 := Scalar.muli c7_i32_106 c1_i32_107
  let v114 : BitVec 32 := Scalar.addi c0_i32_108 v113
  v114.toNat
def k0_dev56 : Nat :=
  let c0_i32_161 : BitVec 32 := 0#32
  let c6_i32_159 : BitVec 32 := 6#32
  let c1_i32_160 : BitVec 32 := 1#32
  let v156 : BitVec 32 := Scalar.muli c6_i32_159 c1_i32_160
  let v157 : BitVec 32 := Scalar.addi c0_i32_161 v156
  v157.toNat
def k0_dev57 : Nat :=
  let c0_i32_172 : BitVec 32 := 0#32
  let c1_i32_170 : BitVec 32 := 1#32
  let c1_i32_171 : BitVec 32 := 1#32
  let v166 : BitVec 32 := Scalar.muli c1_i32_170 c1_i32_171
  let v167 : BitVec 32 := Scalar.addi c0_i32_172 v166
  v167.toNat
def k0_dev58 : Nat :=
  let c0_i32_197 : BitVec 32 := 0#32
  let c1_i32_195 : BitVec 32 := 1#32
  let c1_i32_196 : BitVec 32 := 1#32
  let v187 : BitVec 32 := Scalar.muli c1_i32_195 c1_i32_196
  let v188 : BitVec 32 := Scalar.addi c0_i32_197 v187
  v188.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_54 : BitVec 32 := 6#32
  let v69 : BitVec 1 := Scalar.cmpi .eq v2 c6_i32_54
  let v70 : BitVec 32 := Scalar.extui v69
  let c0_i32_55 : BitVec 32 := 0#32
  let v71 : BitVec 1 := Scalar.cmpi .ne v70 c0_i32_55
  v71

def k0_dev59 : Nat :=
  let c0_i32_64 : BitVec 32 := 0#32
  let c7_i32_62 : BitVec 32 := 7#32
  let c1_i32_63 : BitVec 32 := 1#32
  let v75 : BitVec 32 := Scalar.muli c7_i32_62 c1_i32_63
  let v76 : BitVec 32 := Scalar.addi c0_i32_64 v75
  v76.toNat
def k0_dev60 : Nat :=
  let c0_i32_75 : BitVec 32 := 0#32
  let c5_i32_73 : BitVec 32 := 5#32
  let c1_i32_74 : BitVec 32 := 1#32
  let v85 : BitVec 32 := Scalar.muli c5_i32_73 c1_i32_74
  let v86 : BitVec 32 := Scalar.addi c0_i32_75 v85
  v86.toNat
def k0_dev61 : Nat :=
  let c0_i32_86 : BitVec 32 := 0#32
  let c2_i32_84 : BitVec 32 := 2#32
  let c1_i32_85 : BitVec 32 := 1#32
  let v95 : BitVec 32 := Scalar.muli c2_i32_84 c1_i32_85
  let v96 : BitVec 32 := Scalar.addi c0_i32_86 v95
  v96.toNat
def k0_dev62 : Nat :=
  let c0_i32_122 : BitVec 32 := 0#32
  let c4_i32_120 : BitVec 32 := 4#32
  let c1_i32_121 : BitVec 32 := 1#32
  let v124 : BitVec 32 := Scalar.muli c4_i32_120 c1_i32_121
  let v125 : BitVec 32 := Scalar.addi c0_i32_122 v124
  v125.toNat
def k0_dev63 : Nat :=
  let c0_i32_175 : BitVec 32 := 0#32
  let c2_i32_173 : BitVec 32 := 2#32
  let c1_i32_174 : BitVec 32 := 1#32
  let v167 : BitVec 32 := Scalar.muli c2_i32_173 c1_i32_174
  let v168 : BitVec 32 := Scalar.addi c0_i32_175 v167
  v168.toNat
def k0_dev64 : Nat :=
  let c0_i32_200 : BitVec 32 := 0#32
  let c5_i32_198 : BitVec 32 := 5#32
  let c1_i32_199 : BitVec 32 := 1#32
  let v188 : BitVec 32 := Scalar.muli c5_i32_198 c1_i32_199
  let v189 : BitVec 32 := Scalar.addi c0_i32_200 v188
  v189.toNat
def k0_dev65 : Nat :=
  let c0_i32_211 : BitVec 32 := 0#32
  let c2_i32_209 : BitVec 32 := 2#32
  let c1_i32_210 : BitVec 32 := 1#32
  let v198 : BitVec 32 := Scalar.muli c2_i32_209 c1_i32_210
  let v199 : BitVec 32 := Scalar.addi c0_i32_211 v198
  v199.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_56 : BitVec 32 := 7#32
  let v72 : BitVec 1 := Scalar.cmpi .eq v2 c7_i32_56
  let v73 : BitVec 32 := Scalar.extui v72
  let c0_i32_57 : BitVec 32 := 0#32
  let v74 : BitVec 1 := Scalar.cmpi .ne v73 c0_i32_57
  v74

def k0_dev66 : Nat :=
  let c0_i32_64 : BitVec 32 := 0#32
  let c6_i32_62 : BitVec 32 := 6#32
  let c1_i32_63 : BitVec 32 := 1#32
  let v75 : BitVec 32 := Scalar.muli c6_i32_62 c1_i32_63
  let v76 : BitVec 32 := Scalar.addi c0_i32_64 v75
  v76.toNat
def k0_dev67 : Nat :=
  let c0_i32_75 : BitVec 32 := 0#32
  let c4_i32_73 : BitVec 32 := 4#32
  let c1_i32_74 : BitVec 32 := 1#32
  let v85 : BitVec 32 := Scalar.muli c4_i32_73 c1_i32_74
  let v86 : BitVec 32 := Scalar.addi c0_i32_75 v85
  v86.toNat
def k0_dev68 : Nat :=
  let c0_i32_86 : BitVec 32 := 0#32
  let c3_i32_84 : BitVec 32 := 3#32
  let c1_i32_85 : BitVec 32 := 1#32
  let v95 : BitVec 32 := Scalar.muli c3_i32_84 c1_i32_85
  let v96 : BitVec 32 := Scalar.addi c0_i32_86 v95
  v96.toNat
def k0_dev69 : Nat :=
  let c0_i32_136 : BitVec 32 := 0#32
  let c5_i32_134 : BitVec 32 := 5#32
  let c1_i32_135 : BitVec 32 := 1#32
  let v135 : BitVec 32 := Scalar.muli c5_i32_134 c1_i32_135
  let v136 : BitVec 32 := Scalar.addi c0_i32_136 v135
  v136.toNat
def k0_dev70 : Nat :=
  let c0_i32_161 : BitVec 32 := 0#32
  let c3_i32_159 : BitVec 32 := 3#32
  let c1_i32_160 : BitVec 32 := 1#32
  let v156 : BitVec 32 := Scalar.muli c3_i32_159 c1_i32_160
  let v157 : BitVec 32 := Scalar.addi c0_i32_161 v156
  v157.toNat
def k0_dev71 : Nat :=
  let c0_i32_200 : BitVec 32 := 0#32
  let c4_i32_198 : BitVec 32 := 4#32
  let c1_i32_199 : BitVec 32 := 1#32
  let v188 : BitVec 32 := Scalar.muli c4_i32_198 c1_i32_199
  let v189 : BitVec 32 := Scalar.addi c0_i32_200 v188
  v189.toNat
def k0_dev72 : Nat :=
  let c0_i32_211 : BitVec 32 := 0#32
  let c3_i32_209 : BitVec 32 := 3#32
  let c1_i32_210 : BitVec 32 := 1#32
  let v198 : BitVec 32 := Scalar.muli c3_i32_209 c1_i32_210
  let v199 : BitVec 32 := Scalar.addi c0_i32_211 v198
  v199.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S8192x1024 : Shape := ⟨2, ![8192, 1024]⟩
abbrev S1024x8x128 : Shape := ⟨3, ![1024, 8, 128]⟩
abbrev S8192x8x128 : Shape := ⟨3, ![8192, 8, 128]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S_ : Shape := ⟨0, ![]⟩
abbrev S8x1024x8192 : Shape := ⟨3, ![8, 1024, 8192]⟩
abbrev S1x1024x8192 : Shape := ⟨3, ![1, 1024, 8192]⟩
abbrev S8x1024 : Shape := ⟨2, ![8, 1024]⟩
abbrev S8x1024x1 : Shape := ⟨3, ![8, 1024, 1]⟩
abbrev S1x1024x1 : Shape := ⟨3, ![1, 1024, 1]⟩
abbrev S8x128x1024 : Shape := ⟨3, ![8, 128, 1024]⟩

abbrev nBuf : Space → Nat
  | .hbm => 59
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x8x128, .f32⟩
  | .hbm, ⟨7, _⟩ => ⟨S8192x8x128, .f32⟩
  | .hbm, ⟨8, _⟩ => ⟨S8192x8x128, .f32⟩
  | .hbm, ⟨9, _⟩ => ⟨S1024, .i32⟩
  | .hbm, ⟨10, _⟩ => ⟨S1024x1, .i32⟩
  | .hbm, ⟨11, _⟩ => ⟨S8192, .i32⟩
  | .hbm, ⟨12, _⟩ => ⟨S1x8192, .i32⟩
  | .hbm, ⟨13, _⟩ => ⟨S1024x8192, .i32⟩
  | .hbm, ⟨14, _⟩ => ⟨S1024x8192, .i32⟩
  | .hbm, ⟨15, _⟩ => ⟨S1024x8192, .i32⟩
  | .hbm, ⟨16, _⟩ => ⟨S1024x8192, .i32⟩
  | .hbm, ⟨17, _⟩ => ⟨S_, .i32⟩
  | .hbm, ⟨18, _⟩ => ⟨S1024x8192, .i32⟩
  | .hbm, ⟨19, _⟩ => ⟨S1024x8192, .i1⟩
  | .hbm, ⟨20, _⟩ => ⟨S8x1024x8192, .f32⟩
  | .hbm, ⟨21, _⟩ => ⟨S_, .f32⟩
  | .hbm, ⟨22, _⟩ => ⟨S8x1024x8192, .f32⟩
  | .hbm, ⟨23, _⟩ => ⟨S8x1024x8192, .f32⟩
  | .hbm, ⟨24, _⟩ => ⟨S1x1024x8192, .i1⟩
  | .hbm, ⟨25, _⟩ => ⟨S_, .f32⟩
  | .hbm, ⟨26, _⟩ => ⟨S_, .f32⟩
  | .hbm, ⟨27, _⟩ => ⟨S8x1024x8192, .i1⟩
  | .hbm, ⟨28, _⟩ => ⟨S8x1024x8192, .f32⟩
  | .hbm, ⟨29, _⟩ => ⟨S8x1024x8192, .f32⟩
  | .hbm, ⟨30, _⟩ => ⟨S_, .f32⟩
  | .hbm, ⟨31, _⟩ => ⟨S8x1024, .f32⟩
  | .hbm, ⟨32, _⟩ => ⟨S8x1024x1, .f32⟩
  | .hbm, ⟨33, _⟩ => ⟨S8x1024x8192, .f32⟩
  | .hbm, ⟨34, _⟩ => ⟨S8x1024x8192, .f32⟩
  | .hbm, ⟨35, _⟩ => ⟨S8x1024x8192, .f32⟩
  | .hbm, ⟨36, _⟩ => ⟨S_, .i1⟩
  | .hbm, ⟨37, _⟩ => ⟨S1024, .i1⟩
  | .hbm, ⟨38, _⟩ => ⟨S1x1024x1, .i1⟩
  | .hbm, ⟨39, _⟩ => ⟨S_, .f32⟩
  | .hbm, ⟨40, _⟩ => ⟨S8x1024, .f32⟩
  | .hbm, ⟨41, _⟩ => ⟨S8x1024x1, .f32⟩
  | .hbm, ⟨42, _⟩ => ⟨S_, .f32⟩
  | .hbm, ⟨43, _⟩ => ⟨S_, .f32⟩
  | .hbm, ⟨44, _⟩ => ⟨S8x1024x1, .i1⟩
  | .hbm, ⟨45, _⟩ => ⟨S8x1024x1, .f32⟩
  | .hbm, ⟨46, _⟩ => ⟨S8x1024x1, .f32⟩
  | .hbm, ⟨47, _⟩ => ⟨S8x1024x8192, .f32⟩
  | .hbm, ⟨48, _⟩ => ⟨S8x1024x8192, .f32⟩
  | .hbm, ⟨49, _⟩ => ⟨S1x1024x1, .i1⟩
  | .hbm, ⟨50, _⟩ => ⟨S_, .f32⟩
  | .hbm, ⟨51, _⟩ => ⟨S_, .f32⟩
  | .hbm, ⟨52, _⟩ => ⟨S8x1024x8192, .i1⟩
  | .hbm, ⟨53, _⟩ => ⟨S8x1024x8192, .f32⟩
  | .hbm, ⟨54, _⟩ => ⟨S8x1024x8192, .f32⟩
  | .hbm, ⟨55, _⟩ => ⟨S8x128x1024, .f32⟩
  | .hbm, ⟨56, _⟩ => ⟨S1024x8x128, .f32⟩
  | .hbm, ⟨57, _⟩ => ⟨S1024x1024, .f32⟩
  | .hbm, ⟨58, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Proof.KPCheck.lean ====
/-
Every device's list of operations passes the check.
-/
module

public import proofs.«01_k».proof.Proof.KPOps

@[expose] public section

noncomputable section

namespace Cert.KP

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos)

variable {F : FTy → Type} [FloatOps F]

local notation "𝕄" => MT nD τ sig ℕ (Elt F) ℕ UU ℕ

variable (m : (ℓ : Loc nD τ sig) → Buf (Elt F) ℓ)

set_option maxRecDepth 100000 in
theorem check_ops : ∀ c : Fin 8, check c (finR c) (ops c) (initR c) = true := by decide +kernel

end Cert.KP

end
-- ==== Proof.KPText.lean ====
/-
The printed body is the list of its operations on every device.
-/
module

public import proofs.«01_k».proof.Proof.KPOps

@[expose] public section

noncomputable section

namespace Cert.KP

open Cert.Kernel Cert.Kernel.Gen
open Idealize.ShloMosaic
open Idealize.ShloMosaic.TcCoe
open Idealize.SL Idealize.SL.Sem

variable {F : FTy → Type} [FloatOps F]

/-- The kernel's body at its memrefs. -/
abbrev body : Pr F := cc0_body (F := F) xM (Memref.isWhole_whole _) wqM (Memref.isWhole_whole _) kM (Memref.isWhole_whole _) vM (Memref.isWhole_whole _) woM (Memref.isWhole_whole _)
    outM (Memref.isWhole_whole _) qM (Memref.isWhole_whole _) ctxM (Memref.isWhole_whole _) sliceM (Memref.isWhole_whole _) khM (Memref.isWhole_whole _) vhM (Memref.isWhole_whole _) agM (Memref.isWhole_whole _)
    cc0_scratch6 cc0_scratch7 cc0_scratch8 cc0_scratch9 cc0_scratch10 cc0_scratch11

set_option maxRecDepth 100000 in
theorem text : body (F := F) = .op .deviceId fun d => runOps (ops d) := by
  refine (show body (F := F) = .op .deviceId _ from rfl).trans (congrArg (Prog.op _) (funext fun d => ?_))
  match d with
  | 0 => rfl
  | 1 => rfl
  | 2 => rfl
  | 3 => rfl
  | 4 => rfl
  | 5 => rfl
  | 6 => rfl
  | 7 => rfl

end Cert.KP

end
-- ==== Proof.KIProto.lean ====
/-
The protocol of the kernel: its memrefs and semaphore cells, the contents that its buffers hold, and the schedule of its cells' rounds.

Every device signals the barrier cell of the seven others and waits for seven units on its own before it touches another device's memory; a signal hands over the landing
buffers that the signalled device writes on the signalling one. Device 1 then sends the first 128 rows of its K and V blocks to device 0 (the halo); device 0 computes the
eight 128-row blocks of the attention's context and sends block q to device q; every device multiplies its block by Wo, and an all-gather along the cube's edges and
diagonals (slot j of device c holds the block of device c xor j) puts all eight blocks in every device's result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.ValueIdxCore
public import Idealize.ShloMosaic.Lib.Tactic

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-! ## The resource algebra -/

abbrev UB : Type := URounds (GSem nD τ sig) (Fin 8)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Memrefs and semaphores -/

theorem slot_inb (j : Fin 8) : ∀ a, (![j.val, 0, 0] : Fin 3 → ℕ) a + S1x128x1024.size a ≤ S8x128x1024.size a := by revert j; decide
theorem row_inb (q : Fin 8) : ∀ a, (![128 * q.val, 0] : Fin 2 → ℕ) a + S128x1024.size a ≤ S1024x1024.size a := by revert q; decide
theorem band_inb (q : Fin 8) : ∀ a, (![min (128 * q.val - 128) 640, 0] : Fin 2 → ℕ) a + S384x1024.size a ≤ S1024x1024.size a := by revert q; decide
theorem cell_inb (q h : Fin 8) : ∀ a, (![128 * q.val, 128 * h.val] : Fin 2 → ℕ) a + S128x128.size a ≤ S1024x1024.size a := by revert q h; decide

/-- Rows 128q to 128q+127 of a 1024x1024 buffer; the 384 rows of a block's band; the 128x128 tile of head h in row block q. -/
abbrev rowR (q : Fin 8) : Rect S1024x1024 := Rect.unit (s := S1024x1024) ![128 * q.val, 0] S128x1024.size (row_inb q)
@[inherit_doc rowR] abbrev bandR (q : Fin 8) : Rect S1024x1024 := Rect.unit (s := S1024x1024) ![min (128 * q.val - 128) 640, 0] S384x1024.size (band_inb q)
@[inherit_doc rowR] abbrev cellR (q h : Fin 8) : Rect S1024x1024 := Rect.unit (s := S1024x1024) ![128 * q.val, 128 * h.val] S128x128.size (cell_inb q h)
/-- The last 256 rows of the K and V blocks, for the last block's band. -/
abbrev lastR : Rect S1024x1024 := Rect.unit (s := S1024x1024) ![768, 0] S256x1024.size inb_S1024x1024_S256x1024_768_0
abbrev allR : Rect S1024x1024 := Rect.unit (s := S1024x1024) ![0, 0] S1024x1024.size inb_S1024x1024_S1024x1024_0_0
abbrev allR' : Rect S128x1024 := Rect.unit (s := S128x1024) ![0, 0] S128x1024.size inb_S128x1024_S128x1024_0_0

abbrev xM : Memref sig .tc .vmem S1024x1024 .f32 := Memref.whole cc0_stg0_0
abbrev wqM : Memref sig .tc .vmem S1024x1024 .f32 := Memref.whole cc0_stg1_0
abbrev kM : Memref sig .tc .vmem S1024x1024 .f32 := Memref.whole cc0_stg2_0
abbrev vM : Memref sig .tc .vmem S1024x1024 .f32 := Memref.whole cc0_stg3_0
abbrev woM : Memref sig .tc .vmem S1024x1024 .f32 := Memref.whole cc0_stg4_0
abbrev outM : Memref sig .tc .vmem S1024x1024 .f32 := Memref.whole cc0_stg5_0
abbrev qM : Memref sig .tc .vmem S1024x1024 .f32 := Memref.whole cc0_scratch0
abbrev ctxM : Memref sig .tc .vmem S1024x1024 .f32 := Memref.whole cc0_scratch1
abbrev sliceM : Memref sig .tc .vmem S128x1024 .f32 := Memref.whole cc0_scratch2
abbrev khM : Memref sig .tc .vmem S128x1024 .f32 := Memref.whole cc0_scratch3
abbrev vhM : Memref sig .tc .vmem S128x1024 .f32 := Memref.whole cc0_scratch4
abbrev agM : Memref sig .tc .vmem S8x128x1024 .f32 := Memref.whole cc0_scratch5

abbrev slotR (j : Fin 8) : Rect S8x128x1024 := Rect.unit (s := S8x128x1024) ![j.val, 0, 0] S1x128x1024.size (slot_inb j)
/-- Slot j of the gather buffer. -/
abbrev slotM (j : Fin 8) : Memref sig .tc .vmem S128x1024 .f32 := (agM.slice (slotR j) (fun _ => rfl)).squeeze S128x1024 squeezes_S1x128x1024_S128x1024
/-- Row block q of the context buffer; the first 128 rows of the K and V blocks. -/
abbrev rowM (q : Fin 8) : Memref sig .tc .vmem S128x1024 .f32 := ctxM.slice (rowR q) (fun _ => rfl)
@[inherit_doc rowM] abbrev kfM : Memref sig .tc .vmem S128x1024 .f32 :=
  kM.slice (Rect.unit (s := S1024x1024) ![0, 0] S128x1024.size inb_S1024x1024_S128x1024_0_0) (fun _ => rfl)
@[inherit_doc rowM] abbrev vfM : Memref sig .tc .vmem S128x1024 .f32 :=
  vM.slice (Rect.unit (s := S1024x1024) ![0, 0] S128x1024.size inb_S1024x1024_S128x1024_0_0) (fun _ => rfl)

theorem sem_inb2 (k : Fin 2) : ∀ a, (![k.val] : Fin 1 → ℕ) a + S1.size a ≤ S2.size a := by revert k; decide
theorem sem_inb7 (k : Fin 7) : ∀ a, (![k.val] : Fin 1 → ℕ) a + S1.size a ≤ S7.size a := by revert k; decide
theorem sem_inb8 (k : Fin 8) : ∀ a, (![k.val] : Fin 1 → ℕ) a + S1.size a ≤ S8.size a := by revert k; decide

abbrev barS : Sem sig := (SemArray.scalar (sig.barrier 0 rfl) : Sems sig S_).sem
abbrev hsS (k : Fin 2) : DmaSems sig S_ := (cc0_scratch6.slice (Rect.unit (s := S2) ![k.val] S1.size (sem_inb2 k))).squeeze S_ squeezes_S1_S_
abbrev hrS (k : Fin 2) : DmaSems sig S_ := (cc0_scratch7.slice (Rect.unit (s := S2) ![k.val] S1.size (sem_inb2 k))).squeeze S_ squeezes_S1_S_
abbrev ssS (k : Fin 7) : DmaSems sig S_ := (cc0_scratch8.slice (Rect.unit (s := S7) ![k.val] S1.size (sem_inb7 k))).squeeze S_ squeezes_S1_S_
abbrev srS : DmaSems sig S_ := cc0_scratch9
abbrev asS (k : Fin 7) : DmaSems sig S_ := (cc0_scratch10.slice (Rect.unit (s := S7) ![k.val] S1.size (sem_inb7 k))).squeeze S_ squeezes_S1_S_
abbrev arS (k : Fin 8) : DmaSems sig S_ := (cc0_scratch11.slice (Rect.unit (s := S8) ![k.val] S1.size (sem_inb8 k))).squeeze S_ squeezes_S1_S_

/-! ## Cells: 0, 1 the halo's send, 2, 3 its receive; 4 to 10 the scatter's send, 11 its receive; 12 to 18 the gather's send, 19 to 26 its receive; 27 the barrier -/

def csem (k : Fin 28) : SemLoc sig := if h : k.val < 27 then .dma ⟨k.val + 6, show k.val + 6 < 33 by omega⟩ else .reg barS
def kidx : SemLoc sig → Option (Fin 28)
  | .reg s => if s = barS then some 27 else none
  | .dma s => if h : 6 ≤ s.val then some ⟨s.val - 6, by have : s.val < 33 := s.isLt; omega⟩ else none

theorem kidx_csem (k : Fin 28) : kidx (csem k) = some k := by revert k; decide
theorem csem_injective : Function.Injective csem := fun a b h => by
  have := congrArg kidx h; rw [kidx_csem, kidx_csem] at this; exact Option.some.inj this

abbrev kHS (k : Fin 2) : Fin 28 := ⟨k.val, by omega⟩
abbrev kHR (k : Fin 2) : Fin 28 := ⟨2 + k.val, by omega⟩
abbrev kSS (k : Fin 7) : Fin 28 := ⟨4 + k.val, by omega⟩
abbrev kSR : Fin 28 := 11
abbrev kAS (k : Fin 7) : Fin 28 := ⟨12 + k.val, by omega⟩
abbrev kAR (k : Fin 8) : Fin 28 := ⟨19 + k.val, by omega⟩
abbrev kB : Fin 28 := 27

theorem sem_bar : SemLoc.reg barS = csem kB := by decide
theorem sem_hs (k : Fin 2) : SemLoc.dma (hsS k).sem = csem (kHS k) := by revert k; decide
theorem sem_hr (k : Fin 2) : SemLoc.dma (hrS k).sem = csem (kHR k) := by revert k; decide
theorem sem_ss (k : Fin 7) : SemLoc.dma (ssS k).sem = csem (kSS k) := by revert k; decide
theorem sem_sr : SemLoc.dma srS.sem = csem kSR := by decide
theorem sem_as (k : Fin 7) : SemLoc.dma (asS k).sem = csem (kAS k) := by revert k; decide
theorem sem_ar (k : Fin 8) : SemLoc.dma (arS k).sem = csem (kAR k) := by revert k; decide

abbrev kcell (ck : Dev nD × Fin 28) : GSem nD τ sig := ((ck.1 : Thread nD τ), csem ck.2)

theorem kcell_injective : Function.Injective (kcell : Dev nD × Fin 28 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- One block's credit: every transfer moves 128 rows of 1024 words. -/
def N : ℕ := sliceM.view.dmaCredit
theorem N_pos : 0 < N := View.dmaCredit_pos _ (by decide)
theorem N_slot (j : Fin 8) : (slotM j).view.dmaCredit = N := rfl
theorem N_row (q : Fin 8) : (rowM q).view.dmaCredit = N := rfl
theorem N_kf : kfM.view.dmaCredit = N := rfl
theorem N_vf : vfM.view.dmaCredit = N := rfl
theorem N_kh : khM.view.dmaCredit = N := by decide
theorem N_vh : vhM.view.dmaCredit = N := by decide

/-! ## Contents -/

def xC : Vec F S1024x1024 .f32 := (win0_0.blk (0 : Fin 1)).view.read (Elt F) (m (((0 : Dev nD) : Thread nD τ).loc main_arg0))
def wqC : Vec F S1024x1024 .f32 := (win0_1.blk (0 : Fin 1)).view.read (Elt F) (m (((0 : Dev nD) : Thread nD τ).loc main_arg1))
def kC (c : Dev nD) : Vec F S1024x1024 .f32 := (win0_2.blk (0 : Fin 1)).view.read (Elt F) (m ((c : Thread nD τ).loc main_arg2))
def vC (c : Dev nD) : Vec F S1024x1024 .f32 := (win0_3.blk (0 : Fin 1)).view.read (Elt F) (m ((c : Thread nD τ).loc main_arg3))
def woC (c : Dev nD) : Vec F S1024x1024 .f32 := (win0_4.blk (0 : Fin 1)).view.read (Elt F) (m ((c : Thread nD τ).loc main_arg4))

/-- The queries x Wq on device 0; the halo's rows of K and V. -/
def qC : Vec F S1024x1024 .f32 := k0_pay1 (xC m) (wqC m)
def khC : Vec F S128x1024 .f32 := kfM.view.read (Elt F) (kC m 1)
def vhC : Vec F S128x1024 .f32 := vfM.view.read (Elt F) (vC m 1)

theorem hslice (h : Fin 8) : S128x1024.Slices ![0, 128 * h.val] S128x128 := by revert h; decide
theorem hslice' (h : Fin 8) : S384x1024.Slices ![0, 128 * h.val] S384x128 := by revert h; decide

/-- The unnormalised weights of head h: the exponentials of the scaled, masked scores of 128 queries against the 384 keys of the band. -/
def headW (mask : IVec S128x384 1) (q : Vec F S128x1024 .f32) (k : FVec F S384x1024 .f32) (h : Fin 8) : FVec F S128x384 .f32 :=
  exp (select mask
    (mulf (matmul dot_S128x128_S384x128_S128x384_1_1_0_0_n_n none (extractStridedSlice S128x128 ![0, 128 * h.val] q (hslice h))
      (extractStridedSlice S384x128 ![0, 128 * h.val] k (hslice' h)) (constant S128x384 .f32 0x00000000#32))
      (broadcast S128x384 (Scalar.ofBits .f32 0x3DB504F3#32)))
    (broadcast S128x384 (Named.named κ "mask" 0xCE6E6B28#32)))

/-- Head h of a block: the weighted mean of the band's values. -/
def headC (mask : IVec S128x384 1) (q : Vec F S128x1024 .f32) (k v : FVec F S384x1024 .f32) (h : Fin 8) : FVec F S128x128 .f32 :=
  shapeCast S128x128
    (divf (matmul dot_S128x384_S384x128_S128x128_1_0_0_1_n_n none (headW mask q k h) (extractStridedSlice S384x128 ![0, 128 * h.val] v (hslice' h)) (constant S128x128 .f32 0x00000000#32))
      (broadcastTo S128x128 (shapeCast S128x1 (multiReduction .add [1] S128 (headW mask q k h) 0x00000000#32 reduces_S128x384_S128 (.inl rfl) rfl) shapeCasts_S128_S128x1) broadcasts_S128x1_S128x128))
    shapeCasts_S128x128_S128x128

def maskC (q : Fin 8) : IVec S128x384 1 := if q = 0 then k0_pay2 else k0_pay3
def qRows (q : Fin 8) : Vec F S128x1024 .f32 := qM.view.readAt (Elt F) (rowR q).toLoadRect (qC m)
def kBand (q : Fin 8) : FVec F S384x1024 .f32 :=
  if q = 7 then k0_pay105 (kM.view.readAt (Elt F) lastR.toLoadRect (kC m 0)) (khC m) else k0_pay4 (kM.view.readAt (Elt F) (bandR q).toLoadRect (kC m 0))
def vBand (q : Fin 8) : FVec F S384x1024 .f32 :=
  if q = 7 then k0_pay106 (vM.view.readAt (Elt F) lastR.toLoadRect (vC m 0)) (vhC m) else k0_pay5 (vM.view.readAt (Elt F) (bandR q).toLoadRect (vC m 0))
def headQ (q h : Fin 8) : FVec F S128x128 .f32 := headC (maskC q) (qRows m q) (kBand m q) (vBand m q) h

theorem col_div (x : Fin 1024) : x.val / 128 < 8 := by omega
theorem col_mod (x : Fin 1024) : x.val % 128 < 128 := by omega

/-- The device at distance b from a along the cube's edges. -/
def xr (a b : Fin 8) : Fin 8 := ⟨a.val ^^^ b.val, Nat.xor_lt_two_pow (n := 3) a.isLt b.isLt⟩

/-- Row block q of the context, all heads side by side; the whole context. -/
def sliceC (q : Fin 8) : Vec F S128x1024 .f32 := fun i =>
  headQ m q ⟨(i (1 : Fin 2)).val / 128, col_div (i (1 : Fin 2))⟩ (ix2 (n0 := 128) (n1 := 128) (i (0 : Fin 2)) ⟨(i (1 : Fin 2)).val % 128, col_mod (i (1 : Fin 2))⟩)
def ctxC : Vec F S1024x1024 .f32 := fun i =>
  sliceC m ⟨(i (0 : Fin 2)).val / 128, col_div (i (0 : Fin 2))⟩ (ix2 (n0 := 128) (n1 := 1024) ⟨(i (0 : Fin 2)).val % 128, col_mod (i (0 : Fin 2))⟩ (i (1 : Fin 2)))

/-- Device c's block of the result; what the gather buffer of a device holds; the result. -/
def outB (c : Dev nD) : Vec F S128x1024 .f32 := k0_pay194 (sliceC m c) (woC m c)
def agC (c : Dev nD) : Vec F S8x128x1024 .f32 := fun i => outB m (xr c (i (0 : Fin 3))) (ix2 (n0 := 128) (n1 := 1024) (i (1 : Fin 3)) (i (2 : Fin 3)))
def outC : Vec F S1024x1024 .f32 := fun i =>
  outB m ⟨(i (0 : Fin 2)).val / 128, col_div (i (0 : Fin 2))⟩ (ix2 (n0 := 128) (n1 := 1024) ⟨(i (0 : Fin 2)).val % 128, col_mod (i (0 : Fin 2))⟩ (i (1 : Fin 2)))

/-! ## The memory that payloads hand over -/

/-- A piece of memory: the halo's source rows, its landing buffer holding anything or the halo; a row block of the context; a device's slice of it; a share of a slot of the
    gather buffer holding its block, or the whole slot holding anything. -/
inductive Mem : Type
  | hsrc (i : Fin 2) | haloAny (i : Fin 2) | halo (i : Fin 2)
  | rowAny (q : Fin 8) | row (q : Fin 8)
  | sliceAny (c : Fin 8) | slice (c : Fin 8)
  | slotAny (c j : Fin 8) | slot (c j : Fin 8) (p : Fin 5)
  deriving DecidableEq

/-- The shares of a slot: all, its halves, the halves of the right half. -/
def sh : Fin 5 → PosShare TreeShare
  | 0 => fullShare
  | 1 => fullShare.left
  | 2 => fullShare.right
  | 3 => fullShare.right.left
  | 4 => fullShare.right.right

def memP : Mem → sProp 𝕄
  | .hsrc 0 => kfM.view.loc ((1 : Dev nD) : Thread nD τ) ↦[kfM.view.set]{fullShare} kC m 1
  | .hsrc 1 => vfM.view.loc ((1 : Dev nD) : Thread nD τ) ↦[vfM.view.set]{fullShare} vC m 1
  | .haloAny 0 => iprop(∃ f : Buf (Elt F) (khM.view.loc ((0 : Dev nD) : Thread nD τ)), khM.view.loc ((0 : Dev nD) : Thread nD τ) ↦[khM.view.set]{fullShare} f)
  | .haloAny 1 => iprop(∃ f : Buf (Elt F) (vhM.view.loc ((0 : Dev nD) : Thread nD τ)), vhM.view.loc ((0 : Dev nD) : Thread nD τ) ↦[vhM.view.set]{fullShare} f)
  | .halo 0 => khM.view.loc ((0 : Dev nD) : Thread nD τ) ↦[khM.view.set]{fullShare} khC m
  | .halo 1 => vhM.view.loc ((0 : Dev nD) : Thread nD τ) ↦[vhM.view.set]{fullShare} vhC m
  | .rowAny q => iprop(∃ f : Buf (Elt F) (ctxM.view.loc ((0 : Dev nD) : Thread nD τ)), ctxM.view.loc ((0 : Dev nD) : Thread nD τ) ↦[(rowM q).view.set]{fullShare} f)
  | .row q => (rowM q).view.loc ((0 : Dev nD) : Thread nD τ) ↦[(rowM q).view.set]{fullShare} ctxC m
  | .sliceAny c => iprop(∃ f : Buf (Elt F) (sliceM.view.loc ((c : Dev nD) : Thread nD τ)), sliceM.view.loc ((c : Dev nD) : Thread nD τ) ↦[sliceM.view.set]{fullShare} f)
  | .slice c => sliceM.view.loc ((c : Dev nD) : Thread nD τ) ↦[sliceM.view.set]{fullShare} sliceC m c
  | .slotAny c j => iprop(∃ f : Buf (Elt F) ((slotM j).view.loc ((c : Dev nD) : Thread nD τ)), (slotM j).view.loc ((c : Dev nD) : Thread nD τ) ↦[(slotM j).view.set]{fullShare} f)
  | .slot c j p => (slotM j).view.loc ((c : Dev nD) : Thread nD τ) ↦[(slotM j).view.set]{sh p} agC m c

instance memP_storable (x : Mem) : BI.Storable (upEmb : UEmb _ 𝕄) (memP m x) := by
  rcases x with i | i | i | q | q | c | c | ⟨c, j⟩ | ⟨c, j, p⟩
  · match i with
    | 0 => unfold memP; infer_instance
    | 1 => unfold memP; infer_instance
  · match i with
    | 0 => unfold memP; infer_instance
    | 1 => unfold memP; infer_instance
  · match i with
    | 0 => unfold memP; infer_instance
    | 1 => unfold memP; infer_instance
  all_goals (unfold memP; infer_instance)

def memL : List Mem → sProp 𝕄
  | [] => iprop(emp)
  | x :: l => iprop(memP m x ∗ memL l)

instance memL_storable : ∀ l : List Mem, BI.Storable (upEmb : UEmb _ 𝕄) (memL m l)
  | [] => by unfold memL; infer_instance
  | x :: l => by have := memL_storable l; unfold memL; infer_instance

/-! ## The gather's tables -/

/-- The device whose distance the block in slot j of device e is sent over: slot j of e is written by e xor wrt j. -/
def wrt (j : Fin 8) : Fin 8 := [(0 : Fin 8), 1, 3, 3, 4, 4, 2, 4].getD j.val 0

/-- A gather send of a device: its index among the device's sends, the slot it reads, the device at the other end, the slot it writes there, the share of the source it reads. -/
structure Xf : Type where
  src : Fin 8
  dev : Fin 8
  dst : Fin 8
  piece : Fin 5
  deriving DecidableEq

/-- What a device forwards once slot j has landed. -/
def fwd (c j : Fin 8) : List Xf :=
  if j = 1 then [⟨1, xr c 3, 2, 3⟩, ⟨1, xr c 4, 5, 4⟩] else if j = 3 then [⟨3, xr c 4, 7, 2⟩] else if j = 4 then [⟨4, xr c 2, 6, 2⟩] else []

/-- The devices whose blocks a device waits for, in order. -/
def others (c : Fin 8) : List (Fin 8) := [1, 2, 3, 4, 5, 6, 7, 0].filter (· ≠ c)
/-- A device's gather sends in order. -/
def sends (c : Fin 8) : List Xf := [⟨0, xr c 1, 1, 1⟩, ⟨0, xr c 3, 3, 3⟩, ⟨0, xr c 4, 4, 4⟩] ++ (others c).flatMap fun o => fwd c (xr c o)
def xf (c : Fin 8) (k : Fin 7) : Xf := (sends c).getD k.val ⟨0, 0, 0, 0⟩

/-- The shares a landed slot is dealt in. -/
def pieces (j : Fin 8) : List (Fin 5) := if j = 0 ∨ j = 1 then [1, 3, 4] else if j = 3 ∨ j = 4 then [1, 2] else [0]

/-! ## The schedule -/

/-- What device e's signal hands device c: the buffers of e that c writes. -/
def giv (e c : Fin 8) : List Mem :=
  (if c = 0 then [.sliceAny e] else []) ++ (if e = 0 ∧ c = 1 then [.haloAny 0, .haloAny 1] else [])
    ++ ([1, 2, 3, 4, 5, 6, 7] : List (Fin 8)).flatMap fun j => if xr e (wrt j) = c then [.slotAny e j] else []

/-- What the units of duty d of cell k of device c hand it. -/
def payOf (c : Fin 8) (k : Fin 28) (d : Fin 8) : List Mem :=
  if h : k.val < 2 then [.hsrc ⟨k.val, h⟩]
  else if h : k.val < 4 then [.halo ⟨k.val - 2, by omega⟩]
  else if h : k.val < 11 then [.row ⟨k.val - 3, by omega⟩]
  else if k.val = 11 then [.slice c]
  else if h : k.val < 19 then [.slot c (xf c ⟨k.val - 12, by omega⟩).src (xf c ⟨k.val - 12, by omega⟩).piece]
  else if h : k.val < 27 then (pieces ⟨k.val - 19, by omega⟩).map fun p => .slot c ⟨k.val - 19, by omega⟩ p
  else giv d c

/-- Whether a transfer is paid to cell k of device c. -/
def used (c : Fin 8) (k : Fin 28) : Bool :=
  if k.val < 2 then c = 1 else if k.val < 4 then c = 0 else if k.val < 11 then c = 0 else if k.val = 11 then c ≠ 0 else if k.val < 19 then true else k ≠ 19

def dutySet (c : Fin 8) (k : Fin 28) : Finset (Fin 8) := if k = kB then Finset.univ.erase c else if used c k then {0} else ∅

def Rd : Rounds.Schedule (GSem nD τ sig) (Fin 8) 𝕄 where
  duties g r := if r = 0 ∧ g.1.2 = .tc then (match kidx g.2 with | some k => dutySet g.1.1 k | none => ∅) else ∅
  unitless _ := False
  amount g _ _ := if kidx g.2 = some kB then 1 else N
  payload g _ d := match kidx g.2 with | some k => memL m (payOf g.1.1 k d) | none => iprop(emp)
  amount_pos g _ _ _ := by
    by_cases h : kidx g.2 = some kB
    · rw [if_pos h]; exact Nat.one_pos
    · rw [if_neg h]; exact N_pos

instance Rd_payload_storable (g : GSem nD τ sig) (r : ℕ) (d : Fin 8) : BI.Storable (upEmb : UEmb _ 𝕄) ((Rd (F := F) m).payload g r d) := by
  show BI.Storable upEmb (match kidx g.2 with | some k => memL m (payOf g.1.1 k d) | none => iprop(emp))
  split <;> infer_instance

section Sched
variable (c : Dev nD) (k : Fin 28) (d : Fin 8)

theorem Rd_duties : (Rd (F := F) m).duties (kcell (c, k)) 0 = dutySet c k := by
  dsimp only [Rd]; rw [if_pos ⟨rfl, rfl⟩, kidx_csem]
theorem Rd_later (g : GSem nD τ sig) : ∀ r, 1 ≤ r → (Rd (F := F) m).duties g r = ∅ := fun r hr => by
  dsimp only [Rd]; rw [if_neg fun h => by omega]
theorem Rd_unused (h : dutySet c k = ∅) : ∀ r, 0 ≤ r → (Rd (F := F) m).duties (kcell (c, k)) r = ∅ := fun r _ => by
  rcases r with _ | r
  · rw [Rd_duties, h]
  · exact Rd_later m _ _ (by omega)
theorem Rd_payload : (Rd (F := F) m).payload (kcell (c, k)) 0 d = memL m (payOf c k d) := by
  dsimp only [Rd]; rw [kidx_csem]
theorem Rd_amount_bar : (Rd (F := F) m).amount (kcell (c, kB)) 0 d = 1 := by
  dsimp only [Rd]; rw [kidx_csem, if_pos rfl]
theorem Rd_amount (h : k ≠ kB) : (Rd (F := F) m).amount (kcell (c, k)) 0 d = N := by
  dsimp only [Rd]; rw [kidx_csem, if_neg fun h' => h (Option.some.inj h')]
theorem dutySet_one (h : k ≠ kB) (hu : used c k = true) : dutySet c k = {0} := by unfold dutySet; rw [if_neg h, if_pos hu]
theorem Rd_expect (h : k ≠ kB) (hu : used c k = true) : (Rd (F := F) m).expect (kcell (c, k)) 0 = N := by
  unfold Schedule.expect Schedule.amountOf; rw [Rd_duties, dutySet_one c k h hu, Finset.sum_singleton, Rd_amount m c k 0 h]
theorem Rd_expect_bar : (Rd (F := F) m).expect (kcell (c, kB)) 0 = 7 := by
  unfold Schedule.expect Schedule.amountOf
  rw [Rd_duties, Finset.sum_congr rfl fun d _ => Rd_amount_bar m c d, Finset.sum_const, smul_eq_mul, mul_one]
  revert c; decide
end Sched

/-! ## Levels -/

/-- The level of the gather's receive cell j on device c. -/
def arLvl (c j : Fin 8) : ℕ :=
  (([[0, 4, 6, 6, 9, 11, 11, 11], [0, 10, 8, 6, 8, 8, 10, 10], [0, 7, 11, 5, 10, 11, 10, 10], [0, 5, 5, 10, 9, 9, 9, 9],
     [0, 7, 10, 10, 10, 7, 7, 7], [0, 7, 11, 9, 5, 11, 7, 7], [0, 10, 9, 9, 6, 9, 11, 6], [0, 8, 8, 8, 6, 6, 6, 11]] : List (List ℕ)).getD c.val []).getD j.val 0
/-- The level of cell k of device c, at which its units are owed. -/
def lvl (c : Fin 8) (k : Fin 28) : ℕ :=
  if k = kB then 1 else if k.val < 2 then 0 else if k.val < 4 then 2 else if k.val = 11 then 3 else if 19 ≤ k.val then arLvl c ⟨(k.val - 19) % 8, Nat.mod_lt _ (by decide)⟩ else 0

end Cert.KI

end
-- ==== Proof.KIOps.lean ====
/-
The kernel's body as a list of operations, and what each needs and gives: a list of resources before and after it, decidable to check; the check's soundness.
-/
module

public import proofs.«01_k».proof.Proof.KIProto

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos)

variable {F : FTy → Type} [FloatOps F] [Named F]

local notation "𝕄" => MT nD τ sig ℕ (Elt F) ℕ UU ℕ

variable (m : (ℓ : Loc nD τ sig) → Buf (Elt F) ℓ)

/-! ## Resources -/

/-- What a device holds while it runs: memory, a duty's token, its place at a cell before and after its wait, a wait's credit, device 0's staged inputs and queries,
    a row block of the result holding anything or its value. -/
inductive Res : Type
  | mem (x : Mem) | tok (c : Fin 8) (k : Fin 28) (d : Fin 8) | at0 (c : Fin 8) (k : Fin 28) | at1 (c : Fin 8) (k : Fin 28) | crd (c : Fin 8) (k : Fin 28)
  | inX | inWq | inK | inV | inWo (c : Fin 8) | qAny | q | outAny (c o : Fin 8) | outDone (c o : Fin 8)
  deriving DecidableEq

/-- The units that one wait on cell k takes. -/
def units (k : Fin 28) : ℕ := if k = kB then 7 else N

abbrev outRow (o : Fin 8) : Memref sig .tc .vmem S128x1024 .f32 := outM.slice (rowR o) (fun _ => rfl)

def resP : Res → sProp 𝕄
  | .mem x => memP m x
  | .tok c k d => dutyTok ER (kcell (c, k)) 0 d
  | .at0 c k => atPos ER (kcell (c, k)) 0 ∅ 0
  | .at1 c k => atPos ER (kcell (c, k)) 1 ∅ 0
  | .crd c k => cred (tallyAt (kcell (c, k)) (lvl c k) (units k))
  | .inX => xM.view.loc ((0 : Dev nD) : Thread nD τ) ↦[xM.view.set]{fullShare} xC m
  | .inWq => wqM.view.loc ((0 : Dev nD) : Thread nD τ) ↦[wqM.view.set]{fullShare} wqC m
  | .inK => kM.view.loc ((0 : Dev nD) : Thread nD τ) ↦[kM.view.set]{fullShare} kC m 0
  | .inV => vM.view.loc ((0 : Dev nD) : Thread nD τ) ↦[vM.view.set]{fullShare} vC m 0
  | .inWo c => woM.view.loc ((c : Dev nD) : Thread nD τ) ↦[woM.view.set]{fullShare} woC m c
  | .qAny => iprop(∃ f : Buf (Elt F) (qM.view.loc ((0 : Dev nD) : Thread nD τ)), qM.view.loc ((0 : Dev nD) : Thread nD τ) ↦[qM.view.set]{fullShare} f)
  | .q => qM.view.loc ((0 : Dev nD) : Thread nD τ) ↦[qM.view.set]{fullShare} qC m
  | .outAny c o => iprop(∃ f : Buf (Elt F) (outM.view.loc ((c : Dev nD) : Thread nD τ)), outM.view.loc ((c : Dev nD) : Thread nD τ) ↦[(outRow o).view.set]{fullShare} f)
  | .outDone c o => outM.view.loc ((c : Dev nD) : Thread nD τ) ↦[(outRow o).view.set]{fullShare} outC m

def resL : List Res → sProp 𝕄
  | [] => iprop(emp)
  | x :: l => iprop(resP m x ∗ resL l)

theorem resL_append (l l' : List Res) : resL m (l ++ l') ⊣⊢ iprop(resL m l ∗ resL m l') := by
  induction l with
  | nil => exact (emp_sep (PROP := sProp 𝕄)).symm
  | cons x l ih => exact (sep_congr_right ih).trans sep_assoc.symm

theorem resL_mem (l : List Mem) : resL m (l.map .mem) = memL m l := by
  induction l with
  | nil => rfl
  | cons x l ih => show iprop(memP m x ∗ resL m (l.map .mem)) = iprop(memP m x ∗ memL m l); rw [ih]

theorem resL_erase (x : Res) (l : List Res) (h : x ∈ l) : resL m l ⊢ iprop(resP m x ∗ resL m (l.erase x)) := by
  induction l with
  | nil => exact absurd h List.not_mem_nil
  | cons y l ih =>
    by_cases hy : y = x
    · subst hy; rw [List.erase_cons_head]; exact .rfl
    · rw [List.erase_cons_tail (by simpa using hy)]
      have hx : x ∈ l := (List.mem_cons.mp h).resolve_left fun h' => hy h'.symm
      show iprop(resP m y ∗ resL m l) ⊢ iprop(resP m x ∗ resP m y ∗ resL m (l.erase x))
      iintro ⟨Hy, Hl⟩
      ihave H := (ih hx) $$ Hl
      icases H with ⟨Hx, Hl⟩
      isplitl [Hx]; · iexact Hx
      isplitl [Hy]; · iexact Hy
      iexact Hl

/-- `l` without the resources of `p`, each taken once. -/
def removeAll : List Res → List Res → Option (List Res)
  | [], l => some l
  | x :: p, l => if x ∈ l then removeAll p (l.erase x) else none

theorem resL_removeAll (p l l' : List Res) (h : removeAll p l = some l') : resL m l ⊢ iprop(resL m p ∗ resL m l') := by
  induction p generalizing l with
  | nil => cases h; exact (emp_sep (PROP := sProp 𝕄)).2
  | cons x p ih =>
    unfold removeAll at h
    split at h
    · next hx => exact (resL_erase m x l hx).trans ((sep_mono_right (ih _ h)).trans sep_assoc.2)
    · cases h

/-! ## Operations -/

inductive Op : Type
  | sig (d : Fin 8) | waitB | haloS (i : Fin 2) | waitHS (i : Fin 2) | qproj | blk (q : Fin 8) | blk7 | scat (k : Fin 7) (q : Fin 8) | ctxcopy
  | waitSS (k : Fin 7) (q : Fin 8) | waitSR | outblk (o : Fin 8) | send (k : Fin 7) (x : Xf) | waitAS (k : Fin 7) (x : Xf) | recv (j : Fin 8) | put (o j : Fin 8)
  deriving DecidableEq

abbrev Pr (F : FTy → Type) [FloatOps F] [Named F] : Type 1 := Prog (TpuEff nD τ sig (Elt F) Λ₀ .tc) PUnit

theorem w_whole {s : Shape} {e : EltTy} {r : Memref sig .tc .vmem s .f32} (h : r.IsWhole) : r.view.WordExact := h.wordExact
theorem w_slot (j : Fin 8) : (slotM j).view.WordExact := View.wordExact_bits rfl
theorem w_row (q : Fin 8) : (rowM q).view.WordExact := View.wordExact_bits rfl

abbrev head (q h : Fin 8) (k : Pr F) (w : FVec F S128x128 .f32) : Pr F :=
  .op (.load ctxM (cellR q h).toLoadRect (View.loadsAt_vmem h_S128x128)) fun _ =>
    .op (.store ctxM (cellR q h) w Finset.univ (View.stores_vmem_bits_univ h_S128x128 rfl) (.inl rfl)) fun _ => k

/-- The stores of the heads `l` of row block `q`. -/
def heads (q : Fin 8) (w : Fin 8 → FVec F S128x128 .f32) (k : Pr F) : List (Fin 8) → Pr F
  | [] => k
  | h :: l => head q h (heads q w k l) (w h)

abbrev allHeads : List (Fin 8) := [0, 1, 2, 3, 4, 5, 6, 7]

def opProg : Op → Pr F
  | .sig d => .op (.semSignal (d, .tc) barS 1) .ret
  | .waitB => .op (.semWait barS 7) .ret
  | .haloS 0 => .op (.enqueueDma kfM (.remote (Dev.tc (0 : Dev nD)) khM (.dma (hsS 0).sem)) (.dma (hrS 0).sem) (View.wordExact_bits rfl) (Memref.isWhole_whole _).wordExact ⟨⟨rfl, Or.inl rfl⟩, trivial⟩) .ret
  | .haloS 1 => .op (.enqueueDma vfM (.remote (Dev.tc (0 : Dev nD)) vhM (.dma (hsS 1).sem)) (.dma (hrS 1).sem) (View.wordExact_bits rfl) (Memref.isWhole_whole _).wordExact ⟨⟨rfl, Or.inl rfl⟩, trivial⟩) .ret
  | .waitHS 0 => .op (.waitDma2 (hsS 0).sem khM kfM (Memref.isWhole_whole _).wordExact (View.wordExact_bits rfl)) .ret
  | .waitHS 1 => .op (.waitDma2 (hsS 1).sem vhM vfM (Memref.isWhole_whole _).wordExact (View.wordExact_bits rfl)) .ret
  | .qproj => .op (.load xM allR.toLoadRect (View.loadsAt_vmem h_S1024x1024)) fun x => .op (.load wqM allR.toLoadRect (View.loadsAt_vmem h_S1024x1024)) fun w =>
      .op (.load qM allR.toLoadRect (View.loadsAt_vmem h_S1024x1024)) fun _ =>
      .op (.store qM allR (k0_pay1 x w) Finset.univ (View.stores_vmem_bits_univ h_S1024x1024 rfl) (.inl rfl)) .ret
  | .blk q => .op (.load qM (rowR q).toLoadRect (View.loadsAt_vmem h_S128x1024)) fun x => .op (.load kM (bandR q).toLoadRect (View.loadsAt_vmem h_S384x1024)) fun k =>
      .op (.load vM (bandR q).toLoadRect (View.loadsAt_vmem h_S384x1024)) fun v =>
      heads q (headC (maskC q) x (k0_pay4 k) (k0_pay5 v)) (.ret ⟨⟩) allHeads
  | .blk7 => .op (.load qM (rowR 7).toLoadRect (View.loadsAt_vmem h_S128x1024)) fun x =>
      .op (.waitDma2 (hrS 0).sem kfM khM (View.wordExact_bits rfl) (Memref.isWhole_whole _).wordExact) fun _ =>
      .op (.waitDma2 (hrS 1).sem vfM vhM (View.wordExact_bits rfl) (Memref.isWhole_whole _).wordExact) fun _ =>
      .op (.load kM lastR.toLoadRect (View.loadsAt_vmem h_S256x1024)) fun k => .op (.load khM allR'.toLoadRect (View.loadsAt_vmem h_S128x1024)) fun kh =>
      .op (.load vM lastR.toLoadRect (View.loadsAt_vmem h_S256x1024)) fun v => .op (.load vhM allR'.toLoadRect (View.loadsAt_vmem h_S128x1024)) fun vh =>
      heads 7 (headC (maskC 7) x (k0_pay105 k kh) (k0_pay106 v vh)) (.ret ⟨⟩) allHeads
  | .scat k q => .op (.enqueueDma (rowM q) (.remote (Dev.tc (q : Dev nD)) sliceM (.dma (ssS k).sem)) (.dma srS.sem) (w_row q) (Memref.isWhole_whole _).wordExact ⟨⟨rfl, Or.inl rfl⟩, trivial⟩) .ret
  | .ctxcopy => .op (.load ctxM (rowR 0).toLoadRect (View.loadsAt_vmem h_S128x1024)) fun x => .op (.load sliceM allR'.toLoadRect (View.loadsAt_vmem h_S128x1024)) fun _ =>
      .op (.store sliceM allR' (k0_pay137 x) Finset.univ (View.stores_vmem_bits_univ h_S128x1024 rfl) (.inl rfl)) .ret
  | .waitSS k q => .op (.waitDma2 (ssS k).sem sliceM (rowM q) (Memref.isWhole_whole _).wordExact (w_row q)) .ret
  | .waitSR => .op (.waitDma2 srS.sem sliceM sliceM (Memref.isWhole_whole _).wordExact (Memref.isWhole_whole _).wordExact) .ret
  | .outblk o => .op (.load sliceM allR'.toLoadRect (View.loadsAt_vmem h_S128x1024)) fun x => .op (.load woM allR.toLoadRect (View.loadsAt_vmem h_S1024x1024)) fun w =>
      .op (.load outM (rowR o).toLoadRect (View.loadsAt_vmem h_S128x1024)) fun _ =>
      .op (.store outM (rowR o) (k0_pay194 x w) Finset.univ (View.stores_vmem_bits_univ h_S128x1024 rfl) (.inl rfl)) fun _ =>
      .op (.load agM (slotR 0).toLoadRect (View.loadsAt_vmem h_S1x128x1024)) fun _ =>
      .op (.store agM (slotR 0) (k0_pay195 x w) Finset.univ (View.stores_vmem_bits_univ h_S1x128x1024 rfl) (.inl rfl)) .ret
  | .send k x => .op (.enqueueDma (slotM x.src) (.remote (Dev.tc (x.dev : Dev nD)) (slotM x.dst) (.dma (asS k).sem)) (.dma (arS x.dst).sem) (w_slot _) (w_slot _) ⟨⟨rfl, Or.inl rfl⟩, trivial⟩) .ret
  | .waitAS k x => .op (.waitDma2 (asS k).sem (slotM x.dst) (slotM x.src) (w_slot _) (w_slot _)) .ret
  | .recv j => .op (.waitDma2 (arS j).sem (slotM 0) (slotM j) (w_slot _) (w_slot _)) .ret
  | .put o j => .op (.load agM (slotR j).toLoadRect (View.loadsAt_vmem h_S1x128x1024)) fun x => .op (.load outM (rowR o).toLoadRect (View.loadsAt_vmem h_S128x1024)) fun _ =>
      .op (.store outM (rowR o) (k0_pay138 x) Finset.univ (View.stores_vmem_bits_univ h_S128x1024 rfl) (.inl rfl)) .ret

def runOps : List Op → Pr F
  | [] => .ret ⟨⟩
  | o :: l => (opProg o).bind fun _ => runOps l

/-! ## What an operation needs and gives -/

/-- The share of slot j a device keeps for its own copy. -/
def own (j : Fin 8) : Fin 5 := if j = 1 ∨ j = 3 ∨ j = 4 then 1 else 0

def pre (c : Fin 8) : Op → List Res
  | .sig d => .tok d kB c :: (giv c d).map .mem
  | .waitB => [.at0 c kB, .crd c kB]
  | .haloS i => [.tok 1 (kHS i) 0, .tok 0 (kHR i) 0, .mem (.hsrc i), .mem (.haloAny i)]
  | .waitHS i => [.at0 1 (kHS i), .crd 1 (kHS i)]
  | .qproj => [.inX, .inWq, .qAny]
  | .blk q => [.q, .inK, .inV, .mem (.rowAny q)]
  | .blk7 => [.q, .inK, .inV, .mem (.rowAny 7), .at0 0 (kHR 0), .crd 0 (kHR 0), .at0 0 (kHR 1), .crd 0 (kHR 1)]
  | .scat k q => [.tok 0 (kSS k) 0, .tok q kSR 0, .mem (.row q), .mem (.sliceAny q)]
  | .ctxcopy => [.mem (.row 0), .mem (.sliceAny 0)]
  | .waitSS k _ => [.at0 0 (kSS k), .crd 0 (kSS k)]
  | .waitSR => [.at0 c kSR, .crd c kSR]
  | .outblk _ => [.mem (.slice c), .inWo c, .outAny c c, .mem (.slotAny c 0)]
  | .send k x => [.tok c (kAS k) 0, .tok x.dev (kAR x.dst) 0, .mem (.slot c x.src x.piece), .mem (.slotAny x.dev x.dst)]
  | .waitAS k _ => [.at0 c (kAS k), .crd c (kAS k)]
  | .recv j => [.at0 c (kAR j), .crd c (kAR j)]
  | .put o j => [.mem (.slot c j (own j)), .outAny c o]

def post (c : Fin 8) : Op → List Res
  | .sig _ => []
  | .waitB => .at1 c kB :: (((List.finRange 8).filter (· ≠ c)).flatMap fun e => giv e c).map .mem
  | .haloS i => [.crd 1 (kHS i)]
  | .waitHS i => [.at1 1 (kHS i), .mem (.hsrc i)]
  | .qproj => [.inX, .inWq, .q]
  | .blk q => [.q, .inK, .inV, .mem (.row q)]
  | .blk7 => [.q, .inK, .inV, .mem (.row 7), .at1 0 (kHR 0), .at1 0 (kHR 1), .mem (.halo 0), .mem (.halo 1)]
  | .scat k _ => [.crd 0 (kSS k)]
  | .ctxcopy => [.mem (.row 0), .mem (.slice 0)]
  | .waitSS k q => [.at1 0 (kSS k), .mem (.row q)]
  | .waitSR => [.at1 c kSR, .mem (.slice c)]
  | .outblk _ => [.mem (.slice c), .inWo c, .outDone c c, .mem (.slot c 0 1), .mem (.slot c 0 3), .mem (.slot c 0 4)]
  | .send k _ => [.crd c (kAS k)]
  | .waitAS k x => [.at1 c (kAS k), .mem (.slot c x.src x.piece)]
  | .recv j => .at1 c (kAR j) :: ((pieces j).map fun p => .slot c j p).map .mem
  | .put o j => [.mem (.slot c j (own j)), .outDone c o]

/-- The cell whose units the operation pays. -/
def dueA : Op → List (Fin 8 × Fin 28)
  | .sig d => [(d, kB)]
  | .haloS i => [(0, kHR i)]
  | .scat _ q => [(q, kSR)]
  | .send _ x => [(x.dev, kAR x.dst)]
  | _ => []

/-- The cell whose level bounds what is still owed. -/
def waitK : Op → Option (Fin 28)
  | .waitB => some kB
  | .waitHS i => some (kHS i)
  | .blk7 => some (kHR 0)
  | .waitSS k _ => some (kSS k)
  | .waitSR => some kSR
  | .waitAS k _ => some (kAS k)
  | .recv j => some (kAR j)
  | _ => none

def valid (c : Fin 8) : Op → Bool
  | .sig d => d ≠ c
  | .waitB => true
  | .haloS _ => c = 1
  | .waitHS _ => c = 1
  | .qproj => c = 0
  | .blk q => c = 0 ∧ q ≠ 7
  | .blk7 => c = 0
  | .scat k q => c = 0 ∧ q.val = k.val + 1
  | .ctxcopy => c = 0
  | .waitSS k q => c = 0 ∧ q.val = k.val + 1
  | .waitSR => c ≠ 0
  | .outblk o => o = c
  | .send k x => x = xf c k ∧ x.dst ≠ 0 ∧ xr x.dev x.dst = xr c x.src
  | .waitAS k x => x = xf c k
  | .recv j => j ≠ 0
  | .put o j => xr c j = o

/-- A payment's cell, level and units. -/
def payT (p : Fin 8 × Fin 28) : Pay nD τ sig := (kcell p, lvl p.1 p.2, if p.2 = kB then 1 else N)

def lvOk (c : Fin 8) (o : Op) (ds : List (Fin 8 × Fin 28)) : Bool :=
  match waitK o with
  | none => true
  | some k => ds.all fun p => lvl c k < lvl p.1 p.2

theorem lvl_lt (c : Fin 8) (k : Fin 28) : lvl c k < 12 := by revert c k; decide

/-- The whole list runs from the resources `st` to the resources `tgt`, each operation finding what it needs. -/
def check (c : Fin 8) (tgt : List Res) : List Op → List Res → Bool
  | [], st => removeAll tgt st = some []
  | o :: l, st => valid c o && lvOk c o (l.flatMap dueA) && match removeAll (pre c o) st with
    | some st' => check c tgt l (post c o ++ st')
    | none => false

/-! ## Soundness -/

/-- The cells' invariants and that every cell's first round is reached. -/
def recs (K : Dev nD × Fin 28 → ℕ) : sProp 𝕄 :=
  iprop((bigSep Finset.univ fun ck : Dev nD × Fin 28 => cellInv ER (Rd m) (K ck) (kcell ck)) ∗ bigSep Finset.univ fun ck : Dev nD × Fin 28 => reached ER (kcell ck) 0)
instance recs_persistent (K : Dev nD × Fin 28 → ℕ) : Persistent (recs m K) := by unfold recs; infer_instance

/-- What every step reads: the cells and the levels. -/
def ctx (K : Dev nD × Fin 28 → ℕ) : sProp 𝕄 := iprop(recs m K ∗ levAts (SiteBlocks.L (nD := nD) (τ := τ) (sig := sig) 12) SiteBlocks.lv)
instance ctx_persistent (K : Dev nD × Fin 28 → ℕ) : Persistent (ctx m K) := by unfold ctx; infer_instance

theorem ctx_inv (K : Dev nD × Fin 28 → ℕ) (ck : Dev nD × Fin 28) : ctx m K ⊢ cellInv ER (Rd m) (K ck) (kcell ck) :=
  sep_elim_left.trans (sep_elim_left.trans (bigSep_elim (Finset.mem_univ ck)))
theorem ctx_reached (K : Dev nD × Fin 28 → ℕ) (ck : Dev nD × Fin 28) : ctx m K ⊢ reached ER (kcell ck) 0 :=
  sep_elim_left.trans (sep_elim_right.trans (bigSep_elim (Finset.mem_univ ck)))

abbrev 𝒱₀ : Variants := Variants.none

abbrev WP (c : Dev nD) (p : Pr F) (Q : PUnit → sProp 𝕄) : sProp 𝕄 := wp frame (wpE (defs₀ (F := F)) 𝒱₀ (c : Thread nD τ) none) Set.univ p Q

abbrev owesL (c : Dev nD) (ds : List (Fin 8 × Fin 28)) (W : Waits sig ℕ) : sProp 𝕄 := owes (c : Thread nD τ) (tallyL (ds.map payT)) W

def Triple (c : Dev nD) (o : Op) : Prop :=
  ∀ (K : Dev nD × Fin 28 → ℕ) (ds : List (Fin 8 × Fin 28)) (k : PUnit → Pr F) (Q : PUnit → sProp 𝕄) (W : Waits sig ℕ), lvOk c o ds = true →
    iprop(ctx m K ∗ resL m (pre c o) ∗ owesL c (dueA o ++ ds) W ∗ (∀ W', (resL m (post c o) ∗ owesL c ds W') -∗ WP c (k ⟨⟩) Q)) ⊢ WP c ((opProg o).bind k) Q

theorem run_sound (c : Dev nD) (hT : ∀ o, valid c o = true → Triple m c o) (K : Dev nD × Fin 28 → ℕ) (tgt : List Res) (Q : PUnit → sProp 𝕄) (l : List Op) (st : List Res)
    (W : Waits sig ℕ) (h : check c tgt l st = true) :
    iprop(ctx m K ∗ resL m st ∗ owesL c (l.flatMap dueA) W ∗ (∀ W', (resL m tgt ∗ owesL c [] W') -∗ Q ⟨⟩)) ⊢ WP c (runOps l) Q := by
  induction l generalizing st W with
  | nil =>
    have h' : removeAll tgt st = some [] := by simpa [check] using h
    rw [runOps, WP, wp_ret]
    iintro ⟨-, Hst, HO, HQ⟩
    ihave H := (resL_removeAll m tgt st [] h') $$ Hst
    icases H with ⟨Ht, -⟩
    imodintro
    iapply HQ $$ [Ht HO]
    isplitl [Ht]; · iexact Ht
    iexact HO
  | cons o l ih =>
    unfold check at h
    rw [Bool.and_eq_true, Bool.and_eq_true] at h
    obtain ⟨⟨hv, hl⟩, hr⟩ := h
    split at hr
    · next st' hst =>
      rw [runOps]
      iintro ⟨#Hc, Hst, HO, HQ⟩
      ihave H := (resL_removeAll m _ st st' hst) $$ Hst
      icases H with ⟨Hp, Hst⟩
      iapply (hT o hv K (l.flatMap dueA) (fun _ => runOps l) Q W hl)
      isplitr; · iexact Hc
      isplitl [Hp]; · iexact Hp
      isplitl [HO]; · rw [List.flatMap_cons]; iexact HO
      iintro %W' ⟨Hp, HO⟩
      iapply (ih _ W' hr)
      isplitr; · iexact Hc
      isplitl [Hp Hst]
      · iapply (resL_append m _ _).2
        isplitl [Hp]; · iexact Hp
        iexact Hst
      isplitl [HO]; · iexact HO
      iexact HQ
    · exact absurd hr (by decide)

/-! ## The devices' lists -/

def sigOps (c : Fin 8) : List Op := [xs 1, xs 2, xs 3, xs 4, xs 5, xs 6, xs 7].map .sig
where xs (i : Fin 8) : Fin 8 := c + i

def gather (c : Fin 8) : List Op :=
  let tail := (others c).foldl (fun (acc : List Op × ℕ) o =>
    (acc.1 ++ [.recv (xr c o)] ++ ((fwd c (xr c o)).zipIdx acc.2).map (fun p => .send (Fin.ofNat 7 p.2) p.1) ++ [.put o (xr c o)], acc.2 + (fwd c (xr c o)).length)) ([], 3)
  ([0, 1, 2] : List (Fin 7)).map (fun k => .send k (xf c k)) ++ tail.1 ++ (List.finRange 7).map fun k => .waitAS k (xf c k)

def ops (c : Fin 8) : List Op :=
  sigOps c ++ [.waitB]
    ++ (if c = 1 then [.haloS 0, .haloS 1, .waitHS 0, .waitHS 1] else [])
    ++ (if c = 0 then [.qproj, .blk 1, .scat 0 1, .blk 2, .scat 1 2, .blk 3, .scat 2 3, .blk 4, .scat 3 4, .blk 5, .scat 4 5, .blk 6, .scat 5 6, .blk7, .scat 6 7, .blk 0, .ctxcopy,
        .waitSS 0 1, .waitSS 1 2, .waitSS 2 3, .waitSS 3 4, .waitSS 4 5, .waitSS 5 6, .waitSS 6 7] else [.waitSR])
    ++ [.outblk c] ++ gather c

/-- The cells a device waits on. -/
def waited (c : Fin 8) : List (Fin 28) := (List.finRange 28).filter fun k => k = kB ∨ used c k

def initR (c : Fin 8) : List Res :=
  ((ops c).flatMap fun o => (pre c o).filter fun r => match r with | .tok .. => true | _ => false)
    ++ (waited c).map (.at0 c)
    ++ (if c = 0 then [.crd 0 (kHR 0), .crd 0 (kHR 1)] else [.crd c kSR]) ++ .crd c kB :: [1, 2, 3, 4, 5, 6, 7].map (fun j => .crd c (kAR j))
    ++ .mem (.sliceAny c) :: (List.finRange 8).map (fun j => .mem (.slotAny c j)) ++ (List.finRange 8).map (.outAny c) ++ [.inWo c]
    ++ (if c = 0 then [.inX, .inWq, .inK, .inV, .qAny, .mem (.haloAny 0), .mem (.haloAny 1)] ++ (List.finRange 8).map (fun q => .mem (.rowAny q)) else [])
    ++ (if c = 1 then [.mem (.hsrc 0), .mem (.hsrc 1)] else [])

def finR (c : Fin 8) : List Res :=
  (waited c).map (.at1 c) ++ [.mem (.slice c)] ++ (List.finRange 8).flatMap (fun j => (pieces j).map fun p => .mem (.slot c j p)) ++ (List.finRange 8).map (.outDone c) ++ [.inWo c]
    ++ (if c = 0 then [.inX, .inWq, .inK, .inV, .q, .mem (.halo 0), .mem (.halo 1)] ++ (List.finRange 8).map (fun q => .mem (.row q)) else [])
    ++ (if c = 1 then [.mem (.hsrc 0), .mem (.hsrc 1)] else [])

end Cert.KI

end
-- ==== Proof.KISteps.lean ====
/-
What each operation does, but for the blocks of the context: the step from its resources before it to its resources after it.
-/
module

public import proofs.«01_k».proof.Proof.KIOps

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos)

variable {F : FTy → Type} [FloatOps F] [Named F]

local notation "𝕄" => MT nD τ sig ℕ (Elt F) ℕ UU ℕ

variable (m : (ℓ : Loc nD τ sig) → Buf (Elt F) ℓ)

/-! ## Waits and sends -/

theorem owed_above (c : Dev nD) (k : Fin 28) (ds : List (Fin 8 × Fin 28)) (h : ds.all (fun p => lvl c k < lvl p.1 p.2) = true) (g : GSem nD τ sig) (i : ℕ)
    (hg : 0 < tallyL (ds.map payT) g i) : i ∈ SiteBlocks.L (nD := nD) (τ := τ) (sig := sig) 12 g ∧ lvl c k < i := by
  obtain ⟨x, hx, rfl, rfl⟩ := tallyL_pos hg
  obtain ⟨p, hp, rfl⟩ := List.mem_map.mp hx
  have h1 := List.all_eq_true.mp h p hp
  exact ⟨SiteBlocks.mem_L' rfl (lvl_lt _ _), of_decide_eq_true h1⟩

variable (K : Dev nD × Fin 28 → ℕ)

theorem wait_step (c : Dev nD) {k : Fin 28} (hk : k ≠ kB) (hu : used c k = true) {s : SemLoc sig} (hs : s = csem k) {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ s N Kk)
    (cont : PUnit → Pr F) (Q : PUnit → sProp 𝕄) (ds : List (Fin 8 × Fin 28)) (hl : ds.all (fun p => lvl c k < lvl p.1 p.2) = true) (W : Waits sig ℕ) :
    iprop(ctx m K ∗ atPos ER (kcell (c, k)) 0 ∅ 0 ∗ cred (tallyAt (kcell (c, k)) (lvl c k) (units k)) ∗ owesL c ds W
      ∗ (∀ W', (atPos ER (kcell (c, k)) 1 ∅ 0 ∗ memL m (payOf c k 0) ∗ owesL c ds W') -∗ WP c (cont ⟨⟩) Q)) ⊢ WP c (.op w cont) Q := by
  subst hs
  unfold units
  rw [if_neg hk]
  iintro ⟨#Hc, Hat, Hcr, HO, Hk⟩
  ihave #Hi := (ctx_inv m K (c, k)) $$ Hc
  unfold ctx
  icases Hc with ⟨Hrec, Hlev⟩
  iapply (Rounds.wp_wait_rest_token 𝒱₀ ER (Rd m) (c : Thread nD τ) none (sm := csem k) (k' := N) (κ := K (c, k)) hw (Set.mem_univ _) (lvl c k) (R := 0) (m := 0) (T := ∅)
    ((Nat.zero_add _).trans (Rd_expect m c k hk hu).symm)) $$ [Hat Hcr HO]
  · isplitr; · iexact Hi
    isplitl [Hcr]; · iexact Hcr
    isplitl [HO]; · iexact HO
    isplitr
    · iapply (SiteBlocks.mayWait_of (lvl_lt c k) c (csem k) _ (owed_above c k ds hl)) $$ Hlev
    iexact Hat
  iintro ⟨HO, Hat, -, Hp⟩
  iapply Hk
  isplitl [Hat]; · iexact Hat
  isplitl [Hp]
  · ihave Hp' := (Entails.of_eq (show (bigSep ((Rd (F := F) m).duties ((c : Thread nD τ), csem k) 0 \ ∅) fun d => (Rd (F := F) m).payload ((c : Thread nD τ), csem k) 0 d) = memL m (payOf c k 0) by
      rw [Finset.sdiff_empty, Rd_duties m c k, dutySet_one c k hk hu, bigSep_singleton, Rd_payload m c k 0])) $$ Hp
    iexact Hp'
  iexact HO

theorem send_step (c c' : Dev nD) {ks kr : Fin 28} (hks : ks ≠ kB) (hkr : kr ≠ kB) (hus : used c ks = true) (hur : used c' kr = true)
    {sS sem : SemLoc sig} (hs : sS = csem ks) (hr : sem = csem kr) {s : Shape} {src dst : Memref sig .tc .vmem s .f32} {q : PosShare TreeShare}
    {fs : Buf (Elt F) (src.view.loc (c : Thread nD τ))} {fd : Buf (Elt F) (dst.view.loc (c' : Thread nD τ))} {hsc : dst.view.ref.isScScratch = false}
    {hsrc : src.view.WordExact} {hdst : dst.view.WordExact} {hsem : DmaTarget.Typed .vmem sem (.remote (c' : Thread nD τ) dst sS hsc)} (hN : dst.view.amount sem = N)
    (hp₁ : (src.view.loc (c : Thread nD τ) ↦[src.view.set]{q} fs) ⊢ memL m (payOf c ks 0))
    (hp₂ : (dst.view.loc (c' : Thread nD τ) ↦[dst.view.set]{fullShare} (dst.view.write (Elt F) fd (src.view.read (Elt F) fs) Finset.univ)) ⊢ memL m (payOf c' kr 0))
    (cont : PUnit → Pr F) (Q : PUnit → sProp 𝕄) (ds : List (Fin 8 × Fin 28)) (W : Waits sig ℕ) :
    iprop(ctx m K ∗ dutyTok ER (kcell (c, ks)) 0 0 ∗ dutyTok ER (kcell (c', kr)) 0 0 ∗ (src.view.loc (c : Thread nD τ) ↦[src.view.set]{q} fs)
      ∗ (dst.view.loc (c' : Thread nD τ) ↦[dst.view.set]{fullShare} fd) ∗ owesL c ((c', kr) :: ds) W
      ∗ (∀ W', (cred (tallyAt (kcell (c, ks)) (lvl c ks) (units ks)) ∗ owesL c ds W') -∗ WP c (cont ⟨⟩) Q))
      ⊢ WP c (.op (.enqueueDma src (.remote (c' : Thread nD τ) dst sS hsc) sem hsrc hdst hsem) cont) Q := by
  subst hs hr
  unfold units
  rw [if_neg hks]
  iintro ⟨#Hc, Ht₁, Ht₂, Hs, Hd, HO, Hk⟩
  ihave #Hi₁ := (ctx_inv m K (c, ks)) $$ Hc
  ihave #Hi₂ := (ctx_inv m K (c', kr)) $$ Hc
  ihave #Hr₁ := (ctx_reached m K (c, ks)) $$ Hc
  ihave #Hr₂ := (ctx_reached m K (c', kr)) $$ Hc
  have hO : tallyL (((c', kr) :: ds).map payT) = tallyL (ds.map payT) + tallyAt ((c' : Thread nD τ), csem kr) (lvl c' kr) N := by
    rw [List.map_cons, tallyL, add_comm]
    unfold payT
    rw [if_neg hkr]
  iapply (Rounds.wp_send_pointsTo 𝒱₀ ER (Rd m) (c : Thread nD τ) none (κ₁ := K (c, ks)) (κ₂ := K (c', kr)) (r₁ := 0) (r₂ := 0) (d₁ := 0) (d₂ := 0)
    (by rw [Rd_duties m c ks, dutySet_one c ks hks hus]; exact Finset.mem_singleton_self _) (by rw [Rd_duties m c' kr, dutySet_one c' kr hkr hur]; exact Finset.mem_singleton_self _)
    (lvl c' kr) (lvl c ks) N hN (Rd_amount m c ks 0 hks) (Rd_amount m c' kr 0 hkr) (tallyL (ds.map payT)) hO
    (hp₁.trans (Entails.of_eq (Rd_payload m c ks 0).symm)) (hp₂.trans (Entails.of_eq (Rd_payload m c' kr 0).symm))) $$ [Ht₁ Ht₂ Hs Hd HO]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hcr, HO⟩
  iapply Hk
  isplitl [Hcr]; · iexact Hcr
  iexact HO

/-! ## The barrier -/

theorem sig_step (c d : Fin 8) (h : valid c (.sig d) = true) : Triple m c (.sig d) := by
  intro K ds k Q W _
  have hne : d ≠ c := of_decide_eq_true h
  have hO : tallyL ((dueA (.sig d) ++ ds).map payT) = tallyL (ds.map payT) + tallyAt (((d : Dev nD) : Thread nD τ), SemLoc.reg barS) (lvl d kB) 1 := by
    show tallyL (payT (d, kB) :: ds.map payT) = _
    rw [tallyL, add_comm, sem_bar]; rfl
  unfold owesL
  rw [hO]
  show iprop(ctx m K ∗ (dutyTok ER (kcell (d, kB)) 0 c ∗ resL m ((giv c d).map .mem)) ∗ owes (c : Thread nD τ) _ W ∗ (∀ W', (resL m (post c (.sig d)) ∗ owesL c ds W') -∗ WP c (k ⟨⟩) Q))
    ⊢ WP c (.op (.semSignal ((d : Dev nD) : Thread nD τ) barS 1) k) Q
  rw [resL_mem]
  iintro ⟨#Hc, ⟨Ht, Hm⟩, HO, Hk⟩
  ihave #Hi := (ctx_inv m K (d, kB)) $$ Hc
  ihave #Hr := (ctx_reached m K (d, kB)) $$ Hc
  have hcell : (((d : Dev nD) : Thread nD τ), SemLoc.reg barS) = kcell (d, kB) := by rw [sem_bar]
  have hd : c ∈ (Rd (F := F) m).duties (((d : Dev nD) : Thread nD τ), SemLoc.reg barS) 0 := by
    rw [hcell, Rd_duties]; unfold dutySet; rw [if_pos rfl]; exact Finset.mem_erase.mpr ⟨hne.symm, Finset.mem_univ _⟩
  iapply (Rounds.wp_signal 𝒱₀ ER (Rd m) (c : Thread nD τ) none (dst := ((d : Dev nD) : Thread nD τ)) (κ := K (d, kB)) hd (by rw [hcell]; exact Rd_amount_bar m d c) (lvl d kB)
    (tallyL (ds.map payT)) rfl) $$ [Ht Hm HO]
  · rw [hcell, Rd_payload]
    isplitr; · iexact Hi
    isplitl [HO]; · iexact HO
    isplitl [Ht]; · iexact Ht
    isplitl [Hm]; · iexact Hm
    iexact Hr
  iintro HO
  iapply Hk
  isplitr
  · unfold post resL; iempintro
  iexact HO

theorem memL_append (l l' : List Mem) : iprop(memL m l ∗ memL m l') ⊢ memL m (l ++ l') := by
  induction l with
  | nil => exact (emp_sep (PROP := sProp 𝕄)).1
  | cons x l ih => exact sep_assoc.1.trans (sep_mono_right ih)

theorem memL_flatMap (l : List (Fin 8)) (f : Fin 8 → List Mem) : bigSepL l (fun e => memL m (f e)) ⊢ memL m (l.flatMap f) := by
  induction l with
  | nil => exact .rfl
  | cons e l ih =>
    rw [bigSepL_cons, List.flatMap_cons]
    exact (sep_mono_right ih).trans (memL_append m _ _)

theorem others_list (c : Fin 8) : (Finset.univ.erase c : Finset (Fin 8)) = ((List.finRange 8).filter (· ≠ c)).toFinset := by revert c; decide
theorem others_nodup (c : Fin 8) : ((List.finRange 8).filter (· ≠ c)).Nodup := by revert c; decide
theorem payOf_bar (c d : Fin 8) : payOf c kB d = giv d c := rfl

theorem waitB_step (c : Fin 8) : Triple m c .waitB := by
  intro K ds k Q W hl
  show iprop(ctx m K ∗ (atPos ER (kcell (c, kB)) 0 ∅ 0 ∗ cred (tallyAt (kcell (c, kB)) (lvl c kB) (units kB)) ∗ emp) ∗ owesL c ds W
      ∗ (∀ W', ((atPos ER (kcell (c, kB)) 1 ∅ 0 ∗ resL m ((((List.finRange 8).filter (· ≠ c)).flatMap fun e => giv e c).map .mem)) ∗ owesL c ds W') -∗ WP c (k ⟨⟩) Q))
    ⊢ WP c (.op (.semWait barS 7) k) Q
  rw [resL_mem]
  iintro ⟨#Hc, ⟨Hat, Hcr, -⟩, HO, Hk⟩
  ihave #Hi := (ctx_inv m K (c, kB)) $$ Hc
  unfold ctx
  icases Hc with ⟨Hrec, Hlev⟩
  iapply (Rounds.wp_wait_rest_token 𝒱₀ ER (Rd m) (c : Thread nD τ) none (sm := SemLoc.reg barS) (k' := 7) (κ := K (c, kB)) (wpE_semWait_eq 𝒱₀ (c : Thread nD τ) none Set.univ) (Set.mem_univ _)
    (lvl c kB) (R := 0) (m := 0) (T := ∅) ((Nat.zero_add _).trans (by rw [sem_bar]; exact (Rd_expect_bar m c).symm))) $$ [Hat Hcr HO]
  · rw [sem_bar]
    isplitr; · iexact Hi
    isplitl [Hcr]; · iexact Hcr
    isplitl [HO]; · iexact HO
    isplitr
    · iapply (SiteBlocks.mayWait_of (lvl_lt c kB) c (csem kB) _ (owed_above c kB ds hl)) $$ Hlev
    iexact Hat
  rw [sem_bar]
  iintro ⟨HO, Hat, -, Hp⟩
  iapply Hk
  isplitl [Hat Hp]
  · isplitl [Hat]; · iexact Hat
    ihave Hp' := (Entails.of_eq (show (bigSep ((Rd (F := F) m).duties ((c : Thread nD τ), csem kB) 0 \ ∅) fun d => (Rd (F := F) m).payload ((c : Thread nD τ), csem kB) 0 d)
        = bigSepL ((List.finRange 8).filter (· ≠ c)) (fun e => memL m (giv e c)) by
      rw [Finset.sdiff_empty, Rd_duties m c kB, ← bigSep_eq_bigSepL_of_eq _ (others_list c) (others_nodup c)]
      unfold dutySet; rw [if_pos rfl]
      exact bigSep_congr fun d _ => Rd_payload m c kB d)) $$ Hp
    iapply (memL_flatMap m _ _) $$ Hp'
  iexact HO

end Cert.KI

end
-- ==== Proof.KIMoves.lean ====
/-
The steps that move memory: the halo, the scatter, the gather, the projections and the copies.
-/
module

public import proofs.«01_k».proof.Proof.KISteps
public import Idealize.ShloMosaic.Lib.Pipeline.Value

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos)

variable {F : FTy → Type} [FloatOps F] [Named F]

local notation "𝕄" => MT nD τ sig ℕ (Elt F) ℕ UU ℕ

variable (m : (ℓ : Loc nD τ sig) → Buf (Elt F) ℓ)

/-! ## Coordinates -/

theorem ctxC_at (i : S1024x1024.Idx) (q h : Fin 8) (a b : Fin 128) (h0 : (i (0 : Fin 2)).val = 128 * q.val + a.val) (h1 : (i (1 : Fin 2)).val = 128 * h.val + b.val) :
    ctxC m i = headQ m q h (ix2 a b) := by
  have e1 : (⟨(i (0 : Fin 2)).val / 128, col_div (i (0 : Fin 2))⟩ : Fin 8) = q := Fin.ext (show (i (0 : Fin 2)).val / 128 = q.val by omega)
  have e2 : (⟨(i (1 : Fin 2)).val / 128, col_div (i (1 : Fin 2))⟩ : Fin 8) = h := Fin.ext (show (i (1 : Fin 2)).val / 128 = h.val by omega)
  have e3 : (⟨(i (0 : Fin 2)).val % 128, col_mod (i (0 : Fin 2))⟩ : Fin 128) = a := Fin.ext (show (i (0 : Fin 2)).val % 128 = a.val by omega)
  have e4 : (⟨(i (1 : Fin 2)).val % 128, col_mod (i (1 : Fin 2))⟩ : Fin 128) = b := Fin.ext (show (i (1 : Fin 2)).val % 128 = b.val by omega)
  show headQ m ⟨(i (0 : Fin 2)).val / 128, _⟩ ⟨(i (1 : Fin 2)).val / 128, _⟩ (ix2 ⟨(i (0 : Fin 2)).val % 128, _⟩ ⟨(i (1 : Fin 2)).val % 128, _⟩) = _
  rw [e1, e2, e3, e4]

theorem ctxC_row (i : S1024x1024.Idx) (q : Fin 8) (x : S128x1024.Idx) (h0 : (i (0 : Fin 2)).val = 128 * q.val + (x (0 : Fin 2)).val) (h1 : (i (1 : Fin 2)).val = (x (1 : Fin 2)).val) :
    ctxC m i = sliceC m q x := by
  have hx : (x (0 : Fin 2)).val < 128 := (x (0 : Fin 2)).isLt
  have e1 : (⟨(i (0 : Fin 2)).val / 128, col_div (i (0 : Fin 2))⟩ : Fin 8) = q := Fin.ext (show (i (0 : Fin 2)).val / 128 = q.val by omega)
  have e3 : (⟨(i (0 : Fin 2)).val % 128, col_mod (i (0 : Fin 2))⟩ : Fin 128) = x (0 : Fin 2) := Fin.ext (show (i (0 : Fin 2)).val % 128 = (x (0 : Fin 2)).val by omega)
  have e4 : (i (1 : Fin 2) : Fin 1024) = x (1 : Fin 2) := Fin.ext h1
  show sliceC m ⟨(i (0 : Fin 2)).val / 128, _⟩ (ix2 (n0 := 128) (n1 := 1024) ⟨(i (0 : Fin 2)).val % 128, _⟩ (i (1 : Fin 2))) = _
  rw [e1, e3, e4]
  exact congrArg (sliceC m q) (eq_ix2 (n0 := 128) (n1 := 1024) x).symm

theorem outC_row (i : S1024x1024.Idx) (q : Fin 8) (x : S128x1024.Idx) (h0 : (i (0 : Fin 2)).val = 128 * q.val + (x (0 : Fin 2)).val) (h1 : (i (1 : Fin 2)).val = (x (1 : Fin 2)).val) :
    outC m i = outB m q x := by
  have hx : (x (0 : Fin 2)).val < 128 := (x (0 : Fin 2)).isLt
  have e1 : (⟨(i (0 : Fin 2)).val / 128, col_div (i (0 : Fin 2))⟩ : Fin 8) = q := Fin.ext (show (i (0 : Fin 2)).val / 128 = q.val by omega)
  have e3 : (⟨(i (0 : Fin 2)).val % 128, col_mod (i (0 : Fin 2))⟩ : Fin 128) = x (0 : Fin 2) := Fin.ext (show (i (0 : Fin 2)).val % 128 = (x (0 : Fin 2)).val by omega)
  have e4 : (i (1 : Fin 2) : Fin 1024) = x (1 : Fin 2) := Fin.ext h1
  show outB m ⟨(i (0 : Fin 2)).val / 128, _⟩ (ix2 (n0 := 128) (n1 := 1024) ⟨(i (0 : Fin 2)).val % 128, _⟩ (i (1 : Fin 2))) = _
  rw [e1, e3, e4]
  exact congrArg (outB m q) (eq_ix2 (n0 := 128) (n1 := 1024) x).symm

theorem row_emb0 (q : Fin 8) (x : S128x1024.Idx) : ((rowR q).emb x (0 : Fin 2)).val = 128 * q.val + (x (0 : Fin 2)).val := by
  show 128 * q.val + 1 * (x (0 : Fin 2)).val = _; omega
theorem row_emb1 (q : Fin 8) (x : S128x1024.Idx) : ((rowR q).emb x (1 : Fin 2)).val = (x (1 : Fin 2)).val := by
  show 0 + 1 * (x (1 : Fin 2)).val = _; omega

/-- A row block of the context read is the block. -/
theorem row_read (q : Fin 8) : (rowM q).view.read (Elt F) (ctxC m) = sliceC m q := funext fun x => ctxC_row m ((rowR q).emb x) q x (row_emb0 q x) (row_emb1 q x)

theorem agC_slot (c j : Fin 8) (x : S1x128x1024.Idx) : agC m c ((slotR j).emb x) = outB m (xr c j) (ix2 (n0 := 128) (n1 := 1024) (x (1 : Fin 3)) (x (2 : Fin 3))) := by
  have h0 : (x (0 : Fin 3)).val < 1 := (x (0 : Fin 3)).isLt
  have e0 : ((slotR j).emb x (0 : Fin 3) : Fin 8) = j := Fin.ext (show j.val + 1 * (x (0 : Fin 3)).val = j.val by omega)
  have e1 : ((slotR j).emb x (1 : Fin 3) : Fin 128) = x (1 : Fin 3) := Fin.ext (show 0 + 1 * (x (1 : Fin 3)).val = (x (1 : Fin 3)).val by omega)
  have e2 : ((slotR j).emb x (2 : Fin 3) : Fin 1024) = x (2 : Fin 3) := Fin.ext (show 0 + 1 * (x (2 : Fin 3)).val = (x (2 : Fin 3)).val by omega)
  show outB m (xr c ((slotR j).emb x (0 : Fin 3))) (ix2 (n0 := 128) (n1 := 1024) ((slotR j).emb x (1 : Fin 3)) ((slotR j).emb x (2 : Fin 3))) = _
  rw [e0, e1, e2]

theorem slot_emb (j : Fin 8) (x : S128x1024.Idx) : (slotM j).view.emb x = (slotR j).emb (Fin.cons ⟨0, Nat.one_pos⟩ x) := by
  show (slotR j).emb (Shape.reshapeEquiv _ x) = _
  rw [Shape.reshapeEquiv_cons_one]

theorem agC_slotM (c j : Fin 8) (x : S128x1024.Idx) : agC m c ((slotM j).view.emb x) = outB m (xr c j) x := by
  rw [slot_emb, agC_slot]
  exact congrArg (outB m (xr c j)) (eq_ix2 (n0 := 128) (n1 := 1024) x).symm

theorem slot_set (j : Fin 8) : (slotM j).view.set = (agM.access (slotR j)).set := View.set_reshape _ _

/-- A row block stored is the result's. -/
theorem out_store (c o : Fin 8) (f : Buf (Elt F) (outM.view.loc ((c : Dev nD) : Thread nD τ))) (w : FVec F S128x1024 .f32) (hw : w = outB m o) :
    (outM.view.loc ((c : Dev nD) : Thread nD τ) ↦[(outRow o).view.set]{fullShare} ((outM.access (rowR o)).write (Elt F) f w Finset.univ) : sProp 𝕄)
      = outM.view.loc ((c : Dev nD) : Thread nD τ) ↦[(outRow o).view.set]{fullShare} outC m := by
  refine pointsTo_congr fun i hi => ?_
  obtain ⟨x, -, rfl⟩ := Finset.mem_map.mp hi
  refine (View.write_emb_of_mem (v := outM.access (rowR o)) f w (Finset.mem_univ x)).trans ?_
  rw [hw]
  exact (outC_row m ((rowR o).emb x) o x (row_emb0 o x) (row_emb1 o x)).symm

/-- A slot that a transfer from slot j' of device c filled holds device c''s block. -/
theorem slot_land (c j c' j' : Fin 8) (h : xr c' j' = xr c j) (fd : Buf (Elt F) ((slotM j').view.loc ((c' : Dev nD) : Thread nD τ))) :
    ((slotM j').view.loc ((c' : Dev nD) : Thread nD τ) ↦[(slotM j').view.set]{fullShare} ((slotM j').view.write (Elt F) fd ((slotM j).view.read (Elt F) (agC m c)) Finset.univ) : sProp 𝕄)
      = memP m (.slot c' j' 0) := by
  show _ = ((slotM j').view.loc ((c' : Dev nD) : Thread nD τ) ↦[(slotM j').view.set]{fullShare} agC m c' : sProp 𝕄)
  refine pointsTo_congr fun i hi => ?_
  obtain ⟨x, -, rfl⟩ := Finset.mem_map.mp hi
  refine (View.write_emb_of_mem (v := (slotM j').view) fd _ (Finset.mem_univ x)).trans ?_
  show agC m c ((slotM j).view.emb x) = agC m c' ((slotM j').view.emb x)
  rw [agC_slotM, agC_slotM, h]

/-- A slot dealt in its shares. -/
theorem slot_deal (c j : Fin 8) : memP m (.slot c j 0) ⊢ memL m ((pieces j).map fun p => .slot c j p) := by
  unfold pieces
  have h12 : memP m (.slot c j 0) ⊢ iprop(memP m (.slot c j 1) ∗ memP m (.slot c j 2)) := (pointsTo_share (PosShare.mem_left_op_right fullShare)).1
  have h34 : memP m (.slot c j 2) ⊢ iprop(memP m (.slot c j 3) ∗ memP m (.slot c j 4)) := (pointsTo_share (PosShare.mem_left_op_right fullShare.right)).1
  split
  · exact h12.trans ((sep_mono_right h34).trans (sep_mono_right (sep_mono_right (sep_emp (PROP := sProp 𝕄)).2)))
  · split
    · exact h12.trans (sep_mono_right (sep_emp (PROP := sProp 𝕄)).2)
    · exact (sep_emp (PROP := sProp 𝕄)).2

theorem zero2 : (![0, 0] : Fin 2 → ℕ) = fun _ => 0 := by funext a; fin_cases a <;> rfl

/-! ## Payloads -/

theorem payOf_hs (c d : Fin 8) (i : Fin 2) : payOf c (kHS i) d = [.hsrc i] := by revert c d i; decide
theorem payOf_hr (c d : Fin 8) (i : Fin 2) : payOf c (kHR i) d = [.halo i] := by revert c d i; decide
theorem payOf_ss (k : Fin 7) (q : Fin 8) (h : q.val = k.val + 1) : payOf 0 (kSS k) 0 = [.row q] := by revert k q; decide
theorem payOf_sr (c : Fin 8) : payOf c kSR 0 = [.slice c] := by revert c; decide
theorem payOf_as (c : Fin 8) (k : Fin 7) : payOf c (kAS k) 0 = [.slot c (xf c k).src (xf c k).piece] := by revert c k; decide +kernel
theorem payOf_ar (c j : Fin 8) : payOf c (kAR j) 0 = (pieces j).map fun p => .slot c j p := by revert c j; decide +kernel
theorem used_ss (k : Fin 7) : used 0 (kSS k) = true := by revert k; decide
theorem used_sr (c : Fin 8) (h : c ≠ 0) : used c kSR = true := by revert c; decide
theorem used_as (c : Fin 8) (k : Fin 7) : used c (kAS k) = true := by revert c k; decide
theorem used_ar (c j : Fin 8) (h : j ≠ 0) : used c (kAR j) = true := by revert c j; decide
theorem ne_hs (i : Fin 2) : kHS i ≠ kB := by revert i; decide
theorem ne_hr (i : Fin 2) : kHR i ≠ kB := by revert i; decide
theorem ne_ss (i : Fin 7) : kSS i ≠ kB := by revert i; decide
theorem ne_as (i : Fin 7) : kAS i ≠ kB := by revert i; decide
theorem ne_ar (i : Fin 8) : kAR i ≠ kB := by revert i; decide
theorem ne_sr : kSR ≠ kB := by decide

theorem memL_one (x : Mem) : memL m [x] = iprop(memP m x ∗ emp) := rfl

/-! ## Transfers -/

/-- A transfer's operation, from what is known of its cells and payloads. -/
theorem send_op (c c' : Fin 8) (o : Op) (ks kr : Fin 28) (a b : Mem) {s : Shape} {src dst : Memref sig .tc .vmem s .f32} {q : PosShare TreeShare} {sS sem : SemLoc sig}
    {hsc : dst.view.ref.isScScratch = false} {hsrc : src.view.WordExact} {hdst : dst.view.WordExact} {hsem : DmaTarget.Typed .vmem sem (.remote ((c' : Dev nD) : Thread nD τ) dst sS hsc)}
    (hpre : pre c o = [.tok c ks 0, .tok c' kr 0, .mem a, .mem b]) (hpost : post c o = [.crd c ks]) (hdue : dueA o = [(c', kr)])
    (ho : opProg (F := F) o = .op (.enqueueDma src (.remote ((c' : Dev nD) : Thread nD τ) dst sS hsc) sem hsrc hdst hsem) .ret)
    (hks : ks ≠ kB) (hkr : kr ≠ kB) (hus : used c ks = true) (hur : used c' kr = true) (hs : sS = csem ks) (hr : sem = csem kr) (hN : dst.view.amount sem = N)
    (fs : Buf (Elt F) (src.view.loc ((c : Dev nD) : Thread nD τ))) (ha : memP m a = (src.view.loc ((c : Dev nD) : Thread nD τ) ↦[src.view.set]{q} fs))
    (hb : memP m b = iprop(∃ f, dst.view.loc ((c' : Dev nD) : Thread nD τ) ↦[dst.view.set]{fullShare} f)) (hpa : payOf c ks 0 = [a])
    (hp : ∀ fd, (dst.view.loc ((c' : Dev nD) : Thread nD τ) ↦[dst.view.set]{fullShare} (dst.view.write (Elt F) fd (src.view.read (Elt F) fs) Finset.univ)) ⊢ memL m (payOf c' kr 0)) :
    Triple m c o := by
  intro K ds k Q W _
  rw [hpre, hpost, hdue, ho]
  dsimp only [resL, resP]
  rw [hb]
  iintro ⟨#Hc, ⟨Ht₁, Ht₂, Hs, ⟨%fd, Hd⟩, -⟩, HO, Hk⟩
  iapply (send_step m K c c' hks hkr hus hur hs hr (src := src) (dst := dst) (q := q) hN (fs := fs)
    (by rw [hpa, ← ha]; exact (sep_emp (PROP := sProp 𝕄)).2) (fd := fd) (hp fd) k Q ds W)
  isplitr; · iexact Hc
  isplitl [Ht₁]; · iexact Ht₁
  isplitl [Ht₂]; · iexact Ht₂
  isplitl [Hs]; · rw [← ha]; iexact Hs
  isplitl [Hd]; · iexact Hd
  isplitl [HO]; · iexact HO
  iintro %W' ⟨Hcr, HO⟩
  iapply Hk
  isplitl [Hcr]
  · isplitl [Hcr]; · iexact Hcr
    iempintro
  iexact HO

theorem haloS_step (c : Fin 8) (i : Fin 2) (h : valid c (.haloS i) = true) : Triple m c (.haloS i) := by
  obtain rfl : c = 1 := of_decide_eq_true h
  match i with
  | 0 =>
    exact send_op m 1 0 (.haloS 0) (kHS 0) (kHR 0) (.hsrc 0) (.haloAny 0) (src := kfM) (dst := khM) rfl rfl rfl rfl (ne_hs 0) (ne_hr 0) rfl rfl (sem_hs 0) (sem_hr 0) N_kh (kC m 1) rfl rfl
      (payOf_hs 1 0 0) fun fd => by rw [payOf_hr, View.write_whole_univ]; exact (sep_emp (PROP := sProp 𝕄)).2
  | 1 =>
    exact send_op m 1 0 (.haloS 1) (kHS 1) (kHR 1) (.hsrc 1) (.haloAny 1) (src := vfM) (dst := vhM) rfl rfl rfl rfl (ne_hs 1) (ne_hr 1) rfl rfl (sem_hs 1) (sem_hr 1) N_vh (vC m 1) rfl rfl
      (payOf_hs 1 0 1) fun fd => by rw [payOf_hr, View.write_whole_univ]; exact (sep_emp (PROP := sProp 𝕄)).2

theorem scat_step (c : Fin 8) (k : Fin 7) (q : Fin 8) (h : valid c (.scat k q) = true) : Triple m c (.scat k q) := by
  obtain ⟨rfl, hq⟩ : c = 0 ∧ q.val = k.val + 1 := of_decide_eq_true h
  have hq0 : q ≠ 0 := fun h0 => by rw [h0] at hq; exact absurd hq (Nat.succ_ne_zero _).symm
  exact send_op m 0 q (.scat k q) (kSS k) kSR (.row q) (.sliceAny q) (src := rowM q) (dst := sliceM) rfl rfl rfl rfl (ne_ss k) ne_sr (used_ss k) (used_sr q hq0) (sem_ss k) sem_sr rfl (ctxC m) rfl rfl (payOf_ss k q hq)
    fun fd => by rw [payOf_sr, row_read, View.write_whole_univ]; exact (sep_emp (PROP := sProp 𝕄)).2

theorem gsend_step (c : Fin 8) (k : Fin 7) (x : Xf) (h : valid c (.send k x) = true) : Triple m c (.send k x) := by
  obtain ⟨hx, hd, hxr⟩ : x = xf c k ∧ x.dst ≠ 0 ∧ xr x.dev x.dst = xr c x.src := of_decide_eq_true h
  exact send_op m c x.dev (.send k x) (kAS k) (kAR x.dst) (.slot c x.src x.piece) (.slotAny x.dev x.dst) (src := slotM x.src) (dst := slotM x.dst) (q := sh x.piece) rfl rfl rfl rfl (ne_as k) (ne_ar _) (used_as c k) (used_ar _ _ hd) (sem_as k)
    (sem_ar _) rfl (agC m c) rfl rfl (by rw [payOf_as, hx])
    fun fd => by rw [payOf_ar, slot_land m c x.src x.dev x.dst hxr]; exact slot_deal m _ _

/-! ## Waits for transfers -/

/-- A wait's operation. -/
theorem wait_op (c : Fin 8) (o : Op) (k : Fin 28) (l : List Mem) {s : SemLoc sig} {w : TpuEff nD τ sig (Elt F) Λ₀ .tc PUnit} (ho : opProg (F := F) o = .op w .ret)
    (hpre : pre c o = [.at0 c k, .crd c k]) (hpost : post c o = .at1 c k :: l.map .mem) (hdue : dueA o = []) (hwk : waitK o = some k)
    (hk : k ≠ kB) (hu : used c k = true) (hs : s = csem k)
    (hw : ∀ Kk : PUnit → sProp 𝕄, wpE (defs₀ (F := F)) 𝒱₀ ((c : Dev nD) : Thread nD τ) none Set.univ w Kk = waitSpec ((c : Dev nD) : Thread nD τ) Set.univ s N Kk)
    (hp : payOf c k 0 = l) : Triple m c o := by
  intro K ds kk Q W hl
  unfold lvOk at hl
  rw [hwk] at hl
  rw [hpre, hpost, hdue, ho]
  dsimp only [resL, resP]
  rw [resL_mem]
  iintro ⟨#Hc, ⟨Hat, Hcr, -⟩, HO, Hk⟩
  iapply (wait_step m K c hk hu hs hw kk Q ds hl W)
  isplitr; · iexact Hc
  isplitl [Hat]; · iexact Hat
  isplitl [Hcr]; · iexact Hcr
  isplitl [HO]; · iexact HO
  iintro %W' ⟨Hat, Hp, HO⟩
  iapply Hk
  isplitl [Hat Hp]
  · isplitl [Hat]; · iexact Hat
    rw [hp]; iexact Hp
  iexact HO

theorem waitHS_step (c : Fin 8) (i : Fin 2) (h : valid c (.waitHS i) = true) : Triple m c (.waitHS i) := by
  obtain rfl : c = 1 := of_decide_eq_true h
  match i with
  | 0 => exact wait_op m 1 _ (kHS 0) [.hsrc 0] rfl rfl rfl rfl rfl (ne_hs 0) rfl (sem_hs 0) (fun _ => rfl) (payOf_hs _ _ _)
  | 1 => exact wait_op m 1 _ (kHS 1) [.hsrc 1] rfl rfl rfl rfl rfl (ne_hs 1) rfl (sem_hs 1) (fun _ => rfl) (payOf_hs _ _ _)

theorem waitSS_step (c : Fin 8) (k : Fin 7) (q : Fin 8) (h : valid c (.waitSS k q) = true) : Triple m c (.waitSS k q) := by
  obtain ⟨rfl, hq⟩ : c = 0 ∧ q.val = k.val + 1 := of_decide_eq_true h
  exact wait_op m 0 _ (kSS k) [.row q] rfl rfl rfl rfl rfl (ne_ss k) (used_ss k) (sem_ss k) (fun _ => rfl) (payOf_ss k q hq)

theorem waitSR_step (c : Fin 8) (h : valid c .waitSR = true) : Triple m c .waitSR :=
  wait_op m c _ kSR [.slice c] rfl rfl rfl rfl rfl ne_sr (used_sr c (of_decide_eq_true h)) sem_sr (fun _ => rfl) (payOf_sr c)

theorem waitAS_step (c : Fin 8) (k : Fin 7) (x : Xf) (h : valid c (.waitAS k x) = true) : Triple m c (.waitAS k x) := by
  obtain rfl : x = xf c k := of_decide_eq_true h
  exact wait_op m c _ (kAS k) [.slot c (xf c k).src (xf c k).piece] rfl rfl rfl rfl rfl (ne_as k) (used_as c k) (sem_as k) (fun _ => rfl) (payOf_as c k)

theorem recv_step (c j : Fin 8) (h : valid c (.recv j) = true) : Triple m c (.recv j) :=
  wait_op m c _ (kAR j) ((pieces j).map fun p => .slot c j p) rfl rfl rfl rfl rfl (ne_ar j) (used_ar c j (of_decide_eq_true h)) (sem_ar j) (fun _ => rfl) (payOf_ar c j)

/-! ## Copies and projections -/

/-- A program that has returned, followed by a continuation. -/
theorem back (k : PUnit → Pr F) : (Prog.ret PUnit.unit : Pr F).bind k = k PUnit.unit := rfl

/-- `out_store` at the location that a store names. -/
theorem out_stored (c o : Fin 8) (f : Buf (Elt F) ((outM.access (rowR o)).loc ((c : Dev nD) : Thread nD τ))) (w : FVec F S128x1024 .f32) (hw : w = outB m o) :
    ((outM.access (rowR o)).loc ((c : Dev nD) : Thread nD τ) ↦[(outRow o).view.set]{fullShare} ((outM.access (rowR o)).write (Elt F) f w Finset.univ))
      ⊢ (outM.view.loc ((c : Dev nD) : Thread nD τ) ↦[(outRow o).view.set]{fullShare} outC m : sProp 𝕄) :=
  Entails.of_eq (out_store m c o f w hw)

theorem qproj_step (c : Fin 8) (h : valid c .qproj = true) : Triple m c .qproj := by
  obtain rfl : c = 0 := of_decide_eq_true h
  intro K ds k Q W _
  simp only [opProg, Prog.bind_op, Prog.bind_ret]
  dsimp only [pre, post, resL, resP, dueA, List.nil_append]
  iintro ⟨-, ⟨Hx, Hw, ⟨%f, Hq⟩, -⟩, HO, Hk⟩
  iapply (wp_load 𝒱₀ (((0 : Dev nD)) : Thread nD τ) none Set.univ (m := xM) (by rw [View.set_whole]; exact Finset.subset_univ _)) $$ Hx
  iintro Hx
  iapply (wp_load 𝒱₀ (((0 : Dev nD)) : Thread nD τ) none Set.univ (m := wqM) (by rw [View.set_whole]; exact Finset.subset_univ _)) $$ Hw
  iintro Hw
  iapply (wp_load 𝒱₀ (((0 : Dev nD)) : Thread nD τ) none Set.univ (m := qM) (by rw [View.set_whole]; exact Finset.subset_univ _)) $$ Hq
  iintro Hq
  iapply (wp_store 𝒱₀ (((0 : Dev nD)) : Thread nD τ) none Set.univ (m := qM) (r := allR) (Mk := Finset.univ) (by rw [View.set_whole]; exact Finset.subset_univ _)) $$ Hq
  have e₁ : xM.view.readAt (Elt F) allR.toLoadRect (xC m) = xC m := Memref.readAt_unit_zero (Elt F) cc0_stg0_0 zero2 _ _
  have e₂ : wqM.view.readAt (Elt F) allR.toLoadRect (wqC m) = wqC m := Memref.readAt_unit_zero (Elt F) cc0_stg1_0 zero2 _ _
  have e : (qM.access allR).write (Elt F) f (k0_pay1 (xC m) (wqC m)) Finset.univ = qC m := Memref.write_access_unit_zero_univ (Elt F) cc0_scratch0 zero2 _ f _
  rw [e₁, e₂, e]
  iintro Hq
  rw [back]
  iapply Hk
  isplitr [HO]
  · isplitl [Hx]; · iexact Hx
    isplitl [Hw]; · iexact Hw
    isplitl [Hq]; · iexact Hq
    iempintro
  iexact HO

theorem ctxcopy_step (c : Fin 8) (h : valid c .ctxcopy = true) : Triple m c .ctxcopy := by
  obtain rfl : c = 0 := of_decide_eq_true h
  intro K ds k Q W _
  simp only [opProg, Prog.bind_op, Prog.bind_ret]
  dsimp only [pre, post, resL, resP, memP, dueA, List.nil_append]
  iintro ⟨-, ⟨Hx, ⟨%f, Hq⟩, -⟩, HO, Hk⟩
  iapply (wp_load_rect 𝒱₀ (((0 : Dev nD)) : Thread nD τ) none Set.univ (m := ctxM) (r := rowR 0) (Finset.Subset.refl _)) $$ Hx
  iintro Hx
  iapply (wp_load 𝒱₀ (((0 : Dev nD)) : Thread nD τ) none Set.univ (m := sliceM) (by rw [View.set_whole]; exact Finset.subset_univ _)) $$ Hq
  iintro Hq
  iapply (wp_store 𝒱₀ (((0 : Dev nD)) : Thread nD τ) none Set.univ (m := sliceM) (r := allR') (Mk := Finset.univ) (by rw [View.set_whole]; exact Finset.subset_univ _)) $$ Hq
  have e : (sliceM.access allR').write (Elt F) f (k0_pay137 ((ctxM.access (rowR 0)).read (Elt F) (ctxC m))) Finset.univ = sliceC m 0 :=
    (Memref.write_access_unit_zero_univ (Elt F) cc0_scratch2 zero2 _ f _).trans ((shapeCast_self _ _).trans (row_read m 0))
  rw [e]
  iintro Hq
  rw [back]
  iapply Hk
  isplitr [HO]
  · isplitl [Hx]; · iexact Hx
    isplitl [Hq]; · iexact Hq
    iempintro
  iexact HO

/-- A result block behind a leading axis of one element. -/
theorem pay195_apply (a : Vec F S128x1024 .f32) (b : Vec F S1024x1024 .f32) (x : S1x128x1024.Idx) :
    k0_pay195 a b x = k0_pay194 a b (ix2 (n0 := 128) (n1 := 1024) (x (1 : Fin 3)) (x (2 : Fin 3))) := by
  refine (shapeCast_addUnit_apply (n := 2) ![128, 1024] (k0_pay194 a b) shapeCasts_S128x1024_S1x128x1024 x).trans (congrArg _ ?_)
  exact eq_ix2 (n0 := 128) (n1 := 1024) _

theorem xr_zero (c : Fin 8) : xr c 0 = c := by revert c; decide

theorem slot0_store (c : Fin 8) (f : Buf (Elt F) ((agM.access (slotR 0)).loc ((c : Dev nD) : Thread nD τ))) :
    ((agM.access (slotR 0)).loc ((c : Dev nD) : Thread nD τ) ↦[(slotM 0).view.set]{fullShare} ((agM.access (slotR 0)).write (Elt F) f (k0_pay195 (sliceC m c) (woC m c)) Finset.univ) : sProp 𝕄)
      = memP m (.slot c 0 0) := by
  show _ = ((slotM 0).view.loc ((c : Dev nD) : Thread nD τ) ↦[(slotM 0).view.set]{fullShare} agC m c : sProp 𝕄)
  refine pointsTo_congr fun i hi => ?_
  rw [slot_set] at hi
  obtain ⟨x, -, rfl⟩ := Finset.mem_map.mp hi
  refine (View.write_emb_of_mem (v := agM.access (slotR 0)) f _ (Finset.mem_univ x)).trans ?_
  refine (pay195_apply _ _ x).trans ?_
  refine Eq.trans ?_ (agC_slot m c 0 x).symm
  rw [xr_zero]; rfl

theorem outblk_step (c o : Fin 8) (h : valid c (.outblk o) = true) : Triple m c (.outblk o) := by
  obtain rfl : o = c := of_decide_eq_true h
  intro K ds k Q W _
  simp only [opProg, Prog.bind_op, Prog.bind_ret]
  dsimp only [pre, post, resL, resP, dueA, List.nil_append]
  have hs : iprop(memP m (.slot o 0 0) ⊢ memL m [.slot o 0 1, .slot o 0 3, .slot o 0 4]) := slot_deal m o 0
  rw [show memP m (.slice o) = (sliceM.view.loc ((o : Dev nD) : Thread nD τ) ↦[sliceM.view.set]{fullShare} sliceC m o) from rfl,
    show memP m (.slotAny o 0) = iprop(∃ f, (slotM 0).view.loc ((o : Dev nD) : Thread nD τ) ↦[(slotM 0).view.set]{fullShare} f) from rfl]
  iintro ⟨-, ⟨Hx, Hw, ⟨%f, Ho⟩, ⟨%g, Hg⟩, -⟩, HO, Hk⟩
  iapply (wp_load 𝒱₀ ((o : Dev nD) : Thread nD τ) none Set.univ (m := sliceM) (by rw [View.set_whole]; exact Finset.subset_univ _)) $$ Hx
  iintro Hx
  iapply (wp_load 𝒱₀ ((o : Dev nD) : Thread nD τ) none Set.univ (m := woM) (by rw [View.set_whole]; exact Finset.subset_univ _)) $$ Hw
  iintro Hw
  iapply (wp_load_rect 𝒱₀ ((o : Dev nD) : Thread nD τ) none Set.univ (m := outM) (r := rowR o) (Finset.Subset.refl _)) $$ Ho
  iintro Ho
  have e₁ : sliceM.view.readAt (Elt F) allR'.toLoadRect (sliceC m o) = sliceC m o := Memref.readAt_unit_zero (Elt F) cc0_scratch2 zero2 _ _
  have e₂ : woM.view.readAt (Elt F) allR.toLoadRect (woC m o) = woC m o := Memref.readAt_unit_zero (Elt F) cc0_stg4_0 zero2 _ _
  rw [e₁, e₂]
  iapply (wp_store 𝒱₀ ((o : Dev nD) : Thread nD τ) none Set.univ (m := outM) (r := rowR o) (S := (outRow o).view.set) (Mk := Finset.univ) (View.setOn_univ _).le) $$ Ho
  iintro Ho
  ihave Ho := (out_stored m o o f (k0_pay194 (sliceC m o) (woC m o)) rfl) $$ Ho
  iapply (wp_load_rect 𝒱₀ ((o : Dev nD) : Thread nD τ) none Set.univ (m := agM) (r := slotR 0) (slot_set 0).ge) $$ Hg
  iintro Hg
  iapply (wp_store 𝒱₀ ((o : Dev nD) : Thread nD τ) none Set.univ (m := agM) (r := slotR 0) (S := (slotM 0).view.set) (Mk := Finset.univ) ((View.setOn_univ _).trans (slot_set 0).symm).le) $$ Hg
  iintro Hg
  ihave Hg := (Entails.of_eq (slot0_store m o g)) $$ Hg
  ihave Hg := hs $$ Hg
  dsimp only [memL]
  rw [back]
  iapply Hk
  isplitr [HO]
  · isplitl [Hx]; · iexact Hx
    isplitl [Hw]; · iexact Hw
    isplitl [Ho]; · iexact Ho
    iexact Hg
  iexact HO

theorem put_step (c o j : Fin 8) (h : valid c (.put o j) = true) : Triple m c (.put o j) := by
  have hx : xr c j = o := of_decide_eq_true h
  intro K ds k Q W _
  simp only [opProg, Prog.bind_op, Prog.bind_ret]
  dsimp only [pre, post, resL, resP, dueA, List.nil_append]
  rw [show memP m (.slot c j (own j)) = ((slotM j).view.loc ((c : Dev nD) : Thread nD τ) ↦[(slotM j).view.set]{sh (own j)} agC m c) from rfl]
  iintro ⟨-, ⟨Hs, ⟨%f, Ho⟩, -⟩, HO, Hk⟩
  iapply (wp_load_rect 𝒱₀ ((c : Dev nD) : Thread nD τ) none Set.univ (m := agM) (r := slotR j) (slot_set j).ge) $$ Hs
  iintro Hs
  iapply (wp_load_rect 𝒱₀ ((c : Dev nD) : Thread nD τ) none Set.univ (m := outM) (r := rowR o) (Finset.Subset.refl _)) $$ Ho
  iintro Ho
  iapply (wp_store 𝒱₀ ((c : Dev nD) : Thread nD τ) none Set.univ (m := outM) (r := rowR o) (S := (outRow o).view.set) (Mk := Finset.univ) (View.setOn_univ _).le) $$ Ho
  iintro Ho
  have hv : k0_pay138 ((agM.access (slotR j)).read (Elt F) (agC m c)) = outB m o := by
    funext y
    refine (shapeCast_dropUnit_apply (n := 2) ![128, 1024] ((agM.access (slotR j)).read (Elt F) (agC m c)) shapeCasts_S1x128x1024_S128x1024 y).trans ?_
    refine (agC_slot m c j (Fin.cons ⟨0, Nat.one_pos⟩ y)).trans ?_
    rw [hx]
    exact congrArg (outB m o) (eq_ix2 (n0 := 128) (n1 := 1024) y).symm
  ihave Ho := (out_stored m c o f _ hv) $$ Ho
  rw [back]
  iapply Hk
  isplitr [HO]
  · isplitl [Hs]; · iexact Hs
    isplitl [Ho]; · iexact Ho
    iempintro
  iexact HO

end Cert.KI

end
-- ==== Proof.KIBlocks.lean ====
/-
The attention blocks on device 0: each loads its queries and its band and stores its eight heads.
-/
module

public import proofs.«01_k».proof.Proof.KIMoves
public import Idealize.ShloMosaic.Lib.Pipeline.Value

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos)

variable {F : FTy → Type} [FloatOps F] [Named F]

local notation "𝕄" => MT nD τ sig ℕ (Elt F) ℕ UU ℕ

variable (m : (ℓ : Loc nD τ sig) → Buf (Elt F) ℓ)

/-! ## The eight stores of a block -/

theorem heads_bind (q : Fin 8) (w : Fin 8 → FVec F S128x128 .f32) (p : Pr F) (k : PUnit → Pr F) : ∀ l, (heads q w p l).bind k = heads q w (p.bind k) l
  | [] => rfl
  | h :: l => by
    show Prog.op _ (fun _ => Prog.op _ fun _ => (heads q w p l).bind k) = Prog.op _ (fun _ => Prog.op _ fun _ => heads q w (p.bind k) l)
    rw [heads_bind q w p k l]

theorem in_rect (r : Rect S1024x1024) (i : S1024x1024.Idx) : (i ∈ (ctxM.access r).set) = (i ∈ r.set) :=
  congrArg (fun S : Finset S1024x1024.Idx => i ∈ S) (View.set_slice_whole cc0_scratch1 r)

theorem row_mem {q : Fin 8} {i : S1024x1024.Idx} (hi : i ∈ (rowM q).view.set) : 128 * q.val ≤ (i (0 : Fin 2)).val ∧ (i (0 : Fin 2)).val < 128 * q.val + 128 :=
  (Rect.mem_set_unit.mp ((in_rect (rowR q) i).mp hi)) (0 : Fin 2)

theorem cell_mem {q : Fin 8} {i : S1024x1024.Idx} (hi : i ∈ (rowM q).view.set) : i ∈ (ctxM.access (cellR q ⟨(i (1 : Fin 2)).val / 128, col_div (i (1 : Fin 2))⟩)).set := by
  have h := row_mem hi
  have h1 : (i (1 : Fin 2)).val < 1024 := (i (1 : Fin 2)).isLt
  refine (in_rect _ i).mpr (Rect.mem_set_unit.mpr fun a => ?_)
  match a with
  | 0 => exact h
  | 1 => exact ⟨show 128 * ((i (1 : Fin 2)).val / 128) ≤ (i (1 : Fin 2)).val by omega, show (i (1 : Fin 2)).val < 128 * ((i (1 : Fin 2)).val / 128) + 128 by omega⟩

theorem cell_sub (q h : Fin 8) : (ctxM.access (cellR q h)).set ⊆ (rowM q).view.set := by
  intro i hi
  have hm := Rect.mem_set_unit.mp ((in_rect (cellR q h) i).mp hi)
  refine (in_rect (rowR q) i).mpr (Rect.mem_set_unit.mpr fun a => ?_)
  match a with
  | 0 => exact hm (0 : Fin 2)
  | 1 => exact ⟨Nat.zero_le _, (show (i (1 : Fin 2)).val < 0 + 1024 from (Nat.zero_add _).symm ▸ (i (1 : Fin 2)).isLt)⟩

/-- A head's store makes its cell the context's. -/
theorem head_store (q h : Fin 8) (f : Buf (Elt F) ((ctxM.access (cellR q h)).loc ((0 : Dev nD) : Thread nD τ))) (i : S1024x1024.Idx) (hi : i ∈ (ctxM.access (cellR q h)).set) :
    (ctxM.access (cellR q h)).write (Elt F) f (headQ m q h) Finset.univ i = ctxC m i := by
  obtain ⟨x, -, rfl⟩ := Finset.mem_map.mp hi
  refine (View.write_emb_of_mem (v := ctxM.access (cellR q h)) f (headQ m q h) (Finset.mem_univ x)).trans ?_
  refine Eq.trans ?_ (ctxC_at m ((cellR q h).emb x) q h (x (0 : Fin 2)) (x (1 : Fin 2)) ?_ ?_).symm
  · exact congrArg (headQ m q h) (eq_ix2 (n0 := 128) (n1 := 128) x)
  · show 128 * q.val + 1 * (x (0 : Fin 2)).val = _; omega
  · show 128 * h.val + 1 * (x (1 : Fin 2)).val = _; omega

/-- The stores of the heads `l`, the other heads of the row block being there already. -/
theorem heads_step (q : Fin 8) (w : Fin 8 → FVec F S128x128 .f32) (hw : ∀ h, w h = headQ m q h) (p : Pr F) (Q : PUnit → sProp 𝕄) :
    ∀ (l : List (Fin 8)) (f : Buf (Elt F) (ctxM.view.loc ((0 : Dev nD) : Thread nD τ))),
      (∀ i ∈ (rowM q).view.set, (⟨(i (1 : Fin 2)).val / 128, col_div (i (1 : Fin 2))⟩ : Fin 8) ∉ l → f i = ctxC m i) →
      iprop((ctxM.view.loc ((0 : Dev nD) : Thread nD τ) ↦[(rowM q).view.set]{fullShare} f) ∗ (memP m (.row q) -∗ WP 0 p Q)) ⊢ WP 0 (heads q w p l) Q
  | [], f, hf => by
    have e : (ctxM.view.loc ((0 : Dev nD) : Thread nD τ) ↦[(rowM q).view.set]{fullShare} f : sProp 𝕄) = memP m (.row q) :=
      pointsTo_congr fun i hi => hf i hi List.not_mem_nil
    rw [e]
    iintro ⟨H, Hk⟩
    iapply Hk
    iexact H
  | h :: l, f, hf => by
    have hS : ((ctxM.access (cellR q h)).setOn Finset.univ) ⊆ (rowM q).view.set := (View.setOn_univ _).le.trans (cell_sub q h)
    unfold heads
    rw [hw h]
    iintro ⟨H, Hk⟩
    iapply (wp_load_rect 𝒱₀ ((0 : Dev nD) : Thread nD τ) none Set.univ (m := ctxM) (r := cellR q h) (cell_sub q h)) $$ H
    iintro H
    iapply (wp_store 𝒱₀ ((0 : Dev nD) : Thread nD τ) none Set.univ (m := ctxM) (r := cellR q h) (Mk := Finset.univ) hS) $$ H
    iintro H
    iapply (heads_step q w hw p Q l ((ctxM.access (cellR q h)).write (Elt F) f (headQ m q h) Finset.univ) (fun i hi hn => by
      by_cases hc : i ∈ (ctxM.access (cellR q h)).set
      · exact head_store m q h f i hc
      · refine (View.write_of_not_mem f (headQ m q h) Finset.univ (by rw [View.setOn_univ]; exact hc)).trans (hf i hi ?_)
        intro hm
        rcases List.mem_cons.mp hm with e | hm
        · exact hc (e ▸ cell_mem hi)
        · exact hn hm))
    isplitl [H]; · iexact H
    iexact Hk

theorem all_heads (h : Fin 8) : h ∈ allHeads := by revert h; decide

theorem blk_step (c q : Fin 8) (h : valid c (.blk q) = true) : Triple m c (.blk q) := by
  obtain ⟨rfl, hq⟩ : c = 0 ∧ q ≠ 7 := of_decide_eq_true h
  have hw : ∀ h, headC (maskC q) (qRows m q) (k0_pay4 (kM.view.readAt (Elt F) (bandR q).toLoadRect (kC m 0))) (k0_pay5 (vM.view.readAt (Elt F) (bandR q).toLoadRect (vC m 0))) h = headQ m q h :=
    fun h => by unfold headQ kBand vBand; rw [if_neg hq, if_neg hq]
  intro K ds k Q W _
  simp only [opProg, Prog.bind_op, heads_bind]
  dsimp only [pre, post, resL, resP, dueA, List.nil_append]
  rw [show memP m (.rowAny q) = iprop(∃ f : Buf (Elt F) (ctxM.view.loc ((0 : Dev nD) : Thread nD τ)), ctxM.view.loc ((0 : Dev nD) : Thread nD τ) ↦[(rowM q).view.set]{fullShare} f) from rfl]
  iintro ⟨-, ⟨Hq, Hk, Hv, ⟨%f, Hr⟩, -⟩, HO, Hc⟩
  iapply (wp_load 𝒱₀ ((0 : Dev nD) : Thread nD τ) none Set.univ (m := qM) (by rw [View.set_whole]; exact Finset.subset_univ _)) $$ Hq
  iintro Hq
  iapply (wp_load 𝒱₀ ((0 : Dev nD) : Thread nD τ) none Set.univ (m := kM) (by rw [View.set_whole]; exact Finset.subset_univ _)) $$ Hk
  iintro Hk
  iapply (wp_load 𝒱₀ ((0 : Dev nD) : Thread nD τ) none Set.univ (m := vM) (by rw [View.set_whole]; exact Finset.subset_univ _)) $$ Hv
  iintro Hv
  iapply (heads_step m q _ hw _ Q allHeads f (fun i _ hn => absurd (all_heads _) hn))
  isplitl [Hr]; · iexact Hr
  iintro Hr
  iapply Hc
  isplitr [HO]
  · isplitl [Hq]; · iexact Hq
    isplitl [Hk]; · iexact Hk
    isplitl [Hv]; · iexact Hv
    isplitl [Hr]; · iexact Hr
    iempintro
  iexact HO

theorem used_hr (i : Fin 2) : used 0 (kHR i) = true := by revert i; decide

theorem blk7_step (c : Fin 8) (h : valid c .blk7 = true) : Triple m c .blk7 := by
  obtain rfl : c = 0 := of_decide_eq_true h
  have hw : ∀ h, headC (maskC 7) (qRows m 7) (k0_pay105 (kM.view.readAt (Elt F) lastR.toLoadRect (kC m 0)) (khC m)) (k0_pay106 (vM.view.readAt (Elt F) lastR.toLoadRect (vC m 0)) (vhC m)) h = headQ m 7 h :=
    fun h => by unfold headQ kBand vBand; rw [if_pos rfl, if_pos rfl]
  have e₁ : khM.view.readAt (Elt F) allR'.toLoadRect (khC m) = khC m := Memref.readAt_unit_zero (Elt F) cc0_scratch3 zero2 _ _
  have e₂ : vhM.view.readAt (Elt F) allR'.toLoadRect (vhC m) = vhC m := Memref.readAt_unit_zero (Elt F) cc0_scratch4 zero2 _ _
  intro K ds k Q W hl
  have hl₀ : ds.all (fun p => lvl 0 (kHR 0) < lvl p.1 p.2) = true := hl
  have hl₁ : ds.all (fun p => lvl 0 (kHR 1) < lvl p.1 p.2) = true := hl
  simp only [opProg, Prog.bind_op, heads_bind]
  dsimp only [pre, post, resL, resP, dueA, List.nil_append]
  rw [show memP m (.rowAny 7) = iprop(∃ f : Buf (Elt F) (ctxM.view.loc ((0 : Dev nD) : Thread nD τ)), ctxM.view.loc ((0 : Dev nD) : Thread nD τ) ↦[(rowM 7).view.set]{fullShare} f) from rfl]
  iintro ⟨#Hctx, ⟨Hq, Hk, Hv, ⟨%f, Hr⟩, Ha₀, Hc₀, Ha₁, Hc₁, -⟩, HO, Hc⟩
  iapply (wp_load 𝒱₀ ((0 : Dev nD) : Thread nD τ) none Set.univ (m := qM) (by rw [View.set_whole]; exact Finset.subset_univ _)) $$ Hq
  iintro Hq
  iapply (wait_step m K 0 (k := kHR 0) (ne_hr 0) (used_hr 0) (sem_hr 0) (fun _ => rfl) _ Q ds hl₀ W)
  isplitr; · iexact Hctx
  isplitl [Ha₀]; · iexact Ha₀
  isplitl [Hc₀]; · iexact Hc₀
  isplitl [HO]; · iexact HO
  iintro %W₁ ⟨Ha₀, Hh₀, HO⟩
  iapply (wait_step m K 0 (k := kHR 1) (ne_hr 1) (used_hr 1) (sem_hr 1) (fun _ => rfl) _ Q ds hl₁ W₁)
  isplitr; · iexact Hctx
  isplitl [Ha₁]; · iexact Ha₁
  isplitl [Hc₁]; · iexact Hc₁
  isplitl [HO]; · iexact HO
  iintro %W₂ ⟨Ha₁, Hh₁, HO⟩
  rw [payOf_hr, payOf_hr]
  dsimp only [memL]
  rw [show memP m (.halo 0) = (khM.view.loc ((0 : Dev nD) : Thread nD τ) ↦[khM.view.set]{fullShare} khC m) from rfl,
    show memP m (.halo 1) = (vhM.view.loc ((0 : Dev nD) : Thread nD τ) ↦[vhM.view.set]{fullShare} vhC m) from rfl]
  icases Hh₀ with ⟨Hh₀, -⟩
  icases Hh₁ with ⟨Hh₁, -⟩
  iapply (wp_load 𝒱₀ ((0 : Dev nD) : Thread nD τ) none Set.univ (m := kM) (by rw [View.set_whole]; exact Finset.subset_univ _)) $$ Hk
  iintro Hk
  iapply (wp_load 𝒱₀ ((0 : Dev nD) : Thread nD τ) none Set.univ (m := khM) (by rw [View.set_whole]; exact Finset.subset_univ _)) $$ Hh₀
  iintro Hh₀
  iapply (wp_load 𝒱₀ ((0 : Dev nD) : Thread nD τ) none Set.univ (m := vM) (by rw [View.set_whole]; exact Finset.subset_univ _)) $$ Hv
  iintro Hv
  iapply (wp_load 𝒱₀ ((0 : Dev nD) : Thread nD τ) none Set.univ (m := vhM) (by rw [View.set_whole]; exact Finset.subset_univ _)) $$ Hh₁
  iintro Hh₁
  rw [e₁, e₂]
  iapply (heads_step m 7 _ hw _ Q allHeads f (fun i _ hn => absurd (all_heads _) hn))
  isplitl [Hr]; · iexact Hr
  iintro Hr
  iapply Hc
  isplitr [HO]
  · isplitl [Hq]; · iexact Hq
    isplitl [Hk]; · iexact Hk
    isplitl [Hv]; · iexact Hv
    isplitl [Hr]; · iexact Hr
    isplitl [Ha₀]; · iexact Ha₀
    isplitl [Ha₁]; · iexact Ha₁
    isplitl [Hh₀]; · iexact Hh₀
    isplitl [Hh₁]; · iexact Hh₁
    iempintro
  iexact HO

/-! ## Every operation -/

theorem triples (c : Fin 8) : ∀ o, valid c o = true → Triple m c o
  | .sig d, h => sig_step m c d h
  | .waitB, _ => waitB_step m c
  | .haloS i, h => haloS_step m c i h
  | .waitHS i, h => waitHS_step m c i h
  | .qproj, h => qproj_step m c h
  | .blk q, h => blk_step m c q h
  | .blk7, h => blk7_step m c h
  | .scat k q, h => scat_step m c k q h
  | .ctxcopy, h => ctxcopy_step m c h
  | .waitSS k q, h => waitSS_step m c k q h
  | .waitSR, h => waitSR_step m c h
  | .outblk o, h => outblk_step m c o h
  | .send k x, h => gsend_step m c k x h
  | .waitAS k x, h => waitAS_step m c k x h
  | .recv j, h => recv_step m c j h
  | .put o j, h => put_step m c o j h

end Cert.KI

end
-- ==== Proof.KIMem.lean ====
/-
A device's buffers at entry cut into the pieces that its operations use, and joined again at exit.
-/
module

public import proofs.«01_k».proof.Proof.KIBlocks
public import Idealize.ShloMosaic.Lib.Pipeline.Value

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos)

variable {F : FTy → Type} [FloatOps F] [Named F]

local notation "𝕄" => MT nD τ sig ℕ (Elt F) ℕ UU ℕ

variable (m : (ℓ : Loc nD τ sig) → Buf (Elt F) ℓ)

/-! ## Lists and whole buffers -/

theorem resL_cons (x : Res) (l : List Res) : resL m (x :: l) = iprop(resP m x ∗ resL m l) := rfl
theorem resL_one (x : Res) : resL m [x] ⊢ resP m x := (sep_emp (PROP := sProp 𝕄)).1
theorem resL_nil : resL m [] = iprop(emp) := rfl

omit [FloatOps F] [Named F] in
theorem sepL_mono {ι : Type} {P Q : ι → sProp 𝕄} (h : ∀ i, P i ⊢ Q i) : ∀ l : List ι, bigSepL l P ⊢ bigSepL l Q
  | [] => by rw [bigSepL_nil, bigSepL_nil]
  | x :: l => by rw [bigSepL_cons, bigSepL_cons]; exact BI.sep_mono (h x) (sepL_mono h l)

theorem resL_map {ι : Type} (l : List ι) (f : ι → Res) : resL m (l.map f) = bigSepL l fun i => resP m (f i) := by
  induction l with
  | nil => rfl
  | cons x l ih => rw [bigSepL_cons, ← ih]; rfl

abbrev wpt (c : Dev nD) (b : Ref sig .tc) (f : Buf (Elt F) ((c : Thread nD τ).loc b)) : sProp 𝕄 := ((c : Thread nD τ).loc b) ↦{fullShare} f
abbrev wany (c : Dev nD) (b : Ref sig .tc) : sProp 𝕄 := iprop(∃ f : Buf (Elt F) ((c : Thread nD τ).loc b), wpt c b f)

omit [FloatOps F] [Named F] in
theorem wpt_eq (c : Dev nD) (b : Ref sig .tc) (f : Buf (Elt F) ((c : Thread nD τ).loc b)) :
    (((Memref.whole b).view.loc (c : Thread nD τ)) ↦[(Memref.whole b).view.set]{fullShare} f : sProp 𝕄) = wpt c b f := by
  rw [View.set_whole]

omit [FloatOps F] [Named F] in
/-- A whole buffer is its eight parts. -/
theorem split8 {ℓ : Loc nD τ sig} (P : Fin 8 → Finset (Idx ℓ)) (hd : ∀ t t', t ≠ t' → Disjoint (P t) (P t')) (hu : ∀ i, ∃ t, i ∈ P t) (f : Buf (Elt F) ℓ) :
    (ℓ ↦{fullShare} f : sProp 𝕄) = bigSepL (List.finRange 8) fun t => ℓ ↦[P t]{fullShare} f := by
  rw [← bigSep_univ_eq_bigSepL (List.finRange 8) (by decide) (by decide), ← pointsTo_biUnion Finset.univ P fun t _ t' _ h => hd t t' h]
  congr 1
  exact (Finset.eq_univ_iff_forall.mpr fun i => Finset.mem_biUnion.mpr ((hu i).imp fun t ht => ⟨Finset.mem_univ t, ht⟩)).symm

theorem rows_disj (q q' : Fin 8) (h : q ≠ q') : Disjoint (rowR q).set (rowR q').set := Finset.disjoint_left.mpr fun i hi hi' => h (Fin.ext (by
  have h1 := (Rect.mem_set_unit.mp hi) (0 : Fin 2)
  have h2 := (Rect.mem_set_unit.mp hi') (0 : Fin 2)
  have h1 : 128 * q.val ≤ (i (0 : Fin 2)).val ∧ (i (0 : Fin 2)).val < 128 * q.val + 128 := h1
  have h2 : 128 * q'.val ≤ (i (0 : Fin 2)).val ∧ (i (0 : Fin 2)).val < 128 * q'.val + 128 := h2
  omega))

theorem rows_cover (i : S1024x1024.Idx) : ∃ q : Fin 8, i ∈ (rowR q).set := by
  have h1 : (i (1 : Fin 2)).val < 1024 := (i (1 : Fin 2)).isLt
  refine ⟨⟨(i (0 : Fin 2)).val / 128, col_div (i (0 : Fin 2))⟩, Rect.mem_set_unit.mpr fun a => ?_⟩
  match a with
  | 0 => exact ⟨show 128 * ((i (0 : Fin 2)).val / 128) ≤ (i (0 : Fin 2)).val by omega, show (i (0 : Fin 2)).val < 128 * ((i (0 : Fin 2)).val / 128) + 128 by omega⟩
  | 1 => exact ⟨Nat.zero_le _, show (i (1 : Fin 2)).val < 0 + 1024 by omega⟩

theorem slots_disj (q q' : Fin 8) (h : q ≠ q') : Disjoint (slotR q).set (slotR q').set := Finset.disjoint_left.mpr fun i hi hi' => h (Fin.ext (by
  have h1 := (Rect.mem_set_unit.mp hi) (0 : Fin 3)
  have h2 := (Rect.mem_set_unit.mp hi') (0 : Fin 3)
  have h1 : q.val ≤ (i (0 : Fin 3)).val ∧ (i (0 : Fin 3)).val < q.val + 1 := h1
  have h2 : q'.val ≤ (i (0 : Fin 3)).val ∧ (i (0 : Fin 3)).val < q'.val + 1 := h2
  omega))

theorem slots_cover (i : S8x128x1024.Idx) : ∃ q : Fin 8, i ∈ (slotR q).set := by
  refine ⟨i (0 : Fin 3), Rect.mem_set_unit.mpr fun a => ?_⟩
  match a with
  | 0 => exact ⟨Nat.le_refl _, Nat.lt_succ_self _⟩
  | 1 => exact ⟨Nat.zero_le _, (show (i (1 : Fin 3)).val < 0 + 128 from (Nat.zero_add _).symm ▸ (i (1 : Fin 3)).isLt)⟩
  | 2 => exact ⟨Nat.zero_le _, (show (i (2 : Fin 3)).val < 0 + 1024 from (Nat.zero_add _).symm ▸ (i (2 : Fin 3)).isLt)⟩

theorem ctx_rows (f : Buf (Elt F) (((0 : Dev nD) : Thread nD τ).loc cc0_scratch1)) :
    (wpt 0 cc0_scratch1 f : sProp 𝕄) = bigSepL (List.finRange 8) fun q => ctxM.view.loc ((0 : Dev nD) : Thread nD τ) ↦[(rowM q).view.set]{fullShare} f := by
  refine split8 (ℓ := ((0 : Dev nD) : Thread nD τ).loc cc0_scratch1) (fun q => (rowM q).view.set) ?_ ?_ f
  · intro q q' h
    have := rows_disj q q' h
    rwa [← View.set_slice_whole cc0_scratch1 (rowR q), ← View.set_slice_whole cc0_scratch1 (rowR q')] at this
  · intro i
    obtain ⟨q, hq⟩ := rows_cover i
    exact ⟨q, (in_rect (rowR q) i).mpr hq⟩

theorem out_rows (c : Dev nD) (f : Buf (Elt F) ((c : Thread nD τ).loc cc0_stg5_0)) :
    (wpt c cc0_stg5_0 f : sProp 𝕄) = bigSepL (List.finRange 8) fun q => outM.view.loc (c : Thread nD τ) ↦[(outRow q).view.set]{fullShare} f := by
  refine split8 (ℓ := (c : Thread nD τ).loc cc0_stg5_0) (fun q => (outRow q).view.set) ?_ ?_ f
  · intro q q' h
    have := rows_disj q q' h
    rwa [← View.set_slice_whole cc0_stg5_0 (rowR q), ← View.set_slice_whole cc0_stg5_0 (rowR q')] at this
  · intro i
    obtain ⟨q, hq⟩ := rows_cover i
    exact ⟨q, (congrArg (fun S : Finset S1024x1024.Idx => i ∈ S) (View.set_slice_whole cc0_stg5_0 (rowR q))).mpr hq⟩

theorem ag_slots (c : Dev nD) (f : Buf (Elt F) ((c : Thread nD τ).loc cc0_scratch5)) :
    (wpt c cc0_scratch5 f : sProp 𝕄) = bigSepL (List.finRange 8) fun j => (slotM j).view.loc (c : Thread nD τ) ↦[(slotM j).view.set]{fullShare} f := by
  have e (j : Fin 8) : (slotM j).view.set = (slotR j).set := (slot_set j).trans (View.set_slice_whole cc0_scratch5 (slotR j))
  refine split8 (ℓ := (c : Thread nD τ).loc cc0_scratch5) (fun j => (slotM j).view.set) ?_ ?_ f
  · intro q q' h
    have := slots_disj q q' h
    rwa [← e q, ← e q'] at this
  · intro i
    obtain ⟨q, hq⟩ := slots_cover i
    exact ⟨q, (congrArg (fun S : Finset S8x128x1024.Idx => i ∈ S) (e q)).mpr hq⟩

/-- A slot's shares joined. -/
theorem slot_undeal (c j : Fin 8) : memL m ((pieces j).map fun p => .slot c j p) ⊢ memP m (.slot c j 0) := by
  unfold pieces
  have h12 : iprop(memP m (.slot c j 1) ∗ memP m (.slot c j 2)) ⊢ memP m (.slot c j 0) := (pointsTo_share (PosShare.mem_left_op_right fullShare)).2
  have h34 : iprop(memP m (.slot c j 3) ∗ memP m (.slot c j 4)) ⊢ memP m (.slot c j 2) := (pointsTo_share (PosShare.mem_left_op_right fullShare.right)).2
  split
  · exact (sep_mono_right ((sep_mono_right (sep_emp (PROP := sProp 𝕄)).1).trans h34)).trans h12
  · split
    · exact (sep_mono_right (sep_emp (PROP := sProp 𝕄)).1).trans h12
    · exact (sep_emp (PROP := sProp 𝕄)).1

/-! ## The buffers that every device cuts -/

def comIn (c : Fin 8) : List Res := .mem (.sliceAny c) :: ((List.finRange 8).map (fun j => .mem (.slotAny c j)) ++ ((List.finRange 8).map (.outAny c) ++ [.inWo c]))
def comOut (c : Fin 8) : List Res :=
  .mem (.slice c) :: (((List.finRange 8).flatMap fun j => (pieces j).map fun p => .mem (.slot c j p)) ++ ((List.finRange 8).map (.outDone c) ++ [.inWo c]))

theorem slots_join (c : Fin 8) : ∀ l : List (Fin 8), resL m (l.flatMap fun j => (pieces j).map fun p => .mem (.slot c j p)) ⊢ bigSepL l fun j => memP m (.slot c j 0)
  | [] => by rw [bigSepL_nil]; exact .rfl
  | j :: l => by
    rw [List.flatMap_cons, bigSepL_cons, show ((pieces j).map fun p => Res.mem (.slot c j p)) = ((pieces j).map fun p => Mem.slot c j p).map .mem from (List.map_map ..).symm]
    refine (resL_append m _ _).1.trans ?_
    rw [resL_mem]
    exact BI.sep_mono (slot_undeal m c j) (slots_join c l)

theorem sliceAny_intro (c : Dev nD) (f : Buf (Elt F) ((c : Thread nD τ).loc cc0_scratch2)) : wpt c cc0_scratch2 f ⊢ resP m (.mem (.sliceAny c)) := by
  show _ ⊢ iprop(∃ f : Buf (Elt F) (sliceM.view.loc ((c : Dev nD) : Thread nD τ)), sliceM.view.loc ((c : Dev nD) : Thread nD τ) ↦[sliceM.view.set]{fullShare} f)
  refine BIBase.Entails.trans ?_ (exists_intro (PROP := sProp 𝕄) f)
  rw [wpt_eq]

theorem slice_elim (c : Dev nD) : resP m (.mem (.slice c)) ⊢ wany c cc0_scratch2 := by
  refine BIBase.Entails.trans ?_ (exists_intro (PROP := sProp 𝕄) (sliceC m c))
  rw [← wpt_eq]; exact .rfl

theorem slots_intro (c : Dev nD) (f : Buf (Elt F) ((c : Thread nD τ).loc cc0_scratch5)) : wpt c cc0_scratch5 f ⊢ resL m ((List.finRange 8).map fun j => .mem (.slotAny c j)) := by
  rw [resL_map, ag_slots]
  exact sepL_mono (fun j => show _ ⊢ resP m (.mem (.slotAny c j)) from exists_intro (PROP := sProp 𝕄) f) _

theorem slots_elim (c : Dev nD) : resL m ((List.finRange 8).flatMap fun j => (pieces j).map fun p => .mem (.slot c j p)) ⊢ wany c cc0_scratch5 := by
  have e : (bigSepL (List.finRange 8) fun j => memP m (.slot c j 0)) ⊢ wpt c cc0_scratch5 (agC m c) := by
    rw [ag_slots]
    exact sepL_mono (fun j => .rfl) _
  exact ((slots_join m c _).trans e).trans (exists_intro (PROP := sProp 𝕄) (agC m c))

theorem out_intro (c : Dev nD) (f : Buf (Elt F) ((c : Thread nD τ).loc cc0_stg5_0)) : wpt c cc0_stg5_0 f ⊢ resL m ((List.finRange 8).map (.outAny c)) := by
  rw [resL_map, out_rows]
  exact sepL_mono (fun j => show _ ⊢ resP m (.outAny c j) from exists_intro (PROP := sProp 𝕄) f) _

theorem out_elim (c : Dev nD) : resL m ((List.finRange 8).map (.outDone c)) ⊢ wpt c cc0_stg5_0 (outC m) := by
  rw [resL_map, out_rows]
  exact sepL_mono (fun j => .rfl) _

theorem wo_eq (c : Dev nD) : resP m (.inWo c) = wpt c cc0_stg4_0 (woC m c) := wpt_eq c cc0_stg4_0 _

theorem com_bufs (c : Dev nD) :
    iprop(wpt c cc0_stg4_0 (woC m c) ∗ wany c cc0_stg5_0 ∗ wany c cc0_scratch2 ∗ wany c cc0_scratch5)
      ⊢ iprop(resL m (comIn c) ∗ (resL m (comOut c) -∗ (wpt c cc0_stg4_0 (woC m c) ∗ wpt c cc0_stg5_0 (outC m) ∗ wany c cc0_scratch2 ∗ wany c cc0_scratch5))) := by
  iintro ⟨Hw, ⟨%fo, Ho⟩, ⟨%fs, Hs⟩, ⟨%fg, Hg⟩⟩
  isplitl
  · unfold comIn
    rw [resL_cons]
    isplitl [Hs]
    · iapply (sliceAny_intro m c fs) $$ Hs
    iapply (resL_append m _ _).2
    isplitl [Hg]
    · iapply (slots_intro m c fg) $$ Hg
    iapply (resL_append m _ _).2
    isplitl [Ho]
    · iapply (out_intro m c fo) $$ Ho
    rw [resL_cons, resL_nil]
    isplitl
    · rw [wo_eq]; iexact Hw
    iempintro
  · unfold comOut
    rw [resL_cons]
    iintro ⟨Hs, H⟩
    ihave H := (resL_append m _ _).1 $$ H
    icases H with ⟨Hg, H⟩
    ihave H := (resL_append m _ _).1 $$ H
    icases H with ⟨Ho, H⟩
    ihave Hw := (resL_one m (.inWo c)) $$ H
    ihave Hs := (slice_elim m c) $$ Hs
    ihave Hg := (slots_elim m c) $$ Hg
    ihave Ho := (out_elim m c) $$ Ho
    ihave Hw := (Entails.of_eq (wo_eq m c)) $$ Hw
    isplitl [Hw]
    · iexact Hw
    isplitl [Ho]
    · iexact Ho
    isplitl [Hs] <;> iassumption

/-! ## The buffers of devices 0 and 1 -/

def spIn (c : Fin 8) : List Res :=
  if c = 0 then .inX :: .inWq :: .inK :: .inV :: .qAny :: .mem (.haloAny 0) :: .mem (.haloAny 1) :: (List.finRange 8).map fun q => .mem (.rowAny q)
  else if c = 1 then [.mem (.hsrc 0), .mem (.hsrc 1)] else []
def spOut (c : Fin 8) : List Res :=
  if c = 0 then .inX :: .inWq :: .inK :: .inV :: .q :: .mem (.halo 0) :: .mem (.halo 1) :: (List.finRange 8).map fun q => .mem (.row q)
  else if c = 1 then [.mem (.hsrc 0), .mem (.hsrc 1)] else []

def xA (c : Dev nD) : Vec F S1024x1024 .f32 := (win0_0.blk (0 : Fin 1)).view.read (Elt F) (m ((c : Thread nD τ).loc main_arg0))
def wqA (c : Dev nD) : Vec F S1024x1024 .f32 := (win0_1.blk (0 : Fin 1)).view.read (Elt F) (m ((c : Thread nD τ).loc main_arg1))

def spBufs (c : Dev nD) : sProp 𝕄 :=
  iprop(wpt c cc0_stg0_0 (xA m c) ∗ wpt c cc0_stg1_0 (wqA m c) ∗ wpt c cc0_stg2_0 (kC m c) ∗ wpt c cc0_stg3_0 (vC m c)
    ∗ wany c cc0_scratch0 ∗ wany c cc0_scratch1 ∗ wany c cc0_scratch3 ∗ wany c cc0_scratch4)

theorem rows_intro (f : Buf (Elt F) (((0 : Dev nD) : Thread nD τ).loc cc0_scratch1)) : wpt 0 cc0_scratch1 f ⊢ resL m ((List.finRange 8).map fun q => .mem (.rowAny q)) := by
  rw [resL_map, ctx_rows]
  exact sepL_mono (fun j => show _ ⊢ resP m (.mem (.rowAny j)) from exists_intro (PROP := sProp 𝕄) f) _

theorem rows_elim : resL m ((List.finRange 8).map fun q => .mem (.row q)) ⊢ wany (F := F) 0 cc0_scratch1 := by
  have e : resL m ((List.finRange 8).map fun q => .mem (.row q)) ⊢ wpt 0 cc0_scratch1 (ctxC m) := by
    rw [resL_map, ctx_rows]
    exact sepL_mono (fun j => .rfl) _
  exact e.trans (exists_intro (PROP := sProp 𝕄) (ctxC m))

theorem in_eqs : resP m .inX = wpt 0 cc0_stg0_0 (xA m 0) ∧ resP m .inWq = wpt 0 cc0_stg1_0 (wqA m 0) ∧ resP m .inK = wpt 0 cc0_stg2_0 (kC m 0) ∧ resP m .inV = wpt 0 cc0_stg3_0 (vC m 0)
    ∧ resP m .q = wpt 0 cc0_scratch0 (qC m) ∧ resP m (.mem (.halo 0)) = wpt 0 cc0_scratch3 (khC m) ∧ resP m (.mem (.halo 1)) = wpt 0 cc0_scratch4 (vhC m) :=
  ⟨wpt_eq 0 cc0_stg0_0 _, wpt_eq 0 cc0_stg1_0 _, wpt_eq 0 cc0_stg2_0 _, wpt_eq 0 cc0_stg3_0 _, wpt_eq 0 cc0_scratch0 _, wpt_eq 0 cc0_scratch3 _, wpt_eq 0 cc0_scratch4 _⟩

theorem any_intro : (wany 0 cc0_scratch0 ⊢ resP m .qAny) ∧ (wany 0 cc0_scratch3 ⊢ resP m (.mem (.haloAny 0))) ∧ (wany 0 cc0_scratch4 ⊢ resP m (.mem (.haloAny 1))) :=
  ⟨exists_mono (PROP := sProp 𝕄) fun f => by rw [← wpt_eq], exists_mono (PROP := sProp 𝕄) fun f => by rw [← wpt_eq], exists_mono (PROP := sProp 𝕄) fun f => by rw [← wpt_eq]⟩

theorem sp_bufs0 : spBufs m 0 ⊢ iprop(resL m (spIn 0) ∗ (resL m (spOut 0) -∗ spBufs m 0)) := by
  obtain ⟨eX, eWq, eK, eV, eQ, e0, e1⟩ := in_eqs m
  obtain ⟨aQ, a0, a1⟩ := any_intro m
  rw [show spIn 0 = .inX :: .inWq :: .inK :: .inV :: .qAny :: .mem (.haloAny 0) :: .mem (.haloAny 1) :: (List.finRange 8).map fun q => .mem (.rowAny q) from rfl,
    show spOut 0 = .inX :: .inWq :: .inK :: .inV :: .q :: .mem (.halo 0) :: .mem (.halo 1) :: (List.finRange 8).map fun q => .mem (.row q) from rfl]
  simp only [resL_cons]
  rw [eX, eWq, eK, eV, eQ, e0, e1]
  unfold spBufs
  iintro ⟨Hx, Hwq, Hk, Hv, Hq, ⟨%fc, Hc⟩, H0, H1⟩
  isplitl
  · isplitl [Hx]; · iexact Hx
    isplitl [Hwq]; · iexact Hwq
    isplitl [Hk]; · iexact Hk
    isplitl [Hv]; · iexact Hv
    isplitl [Hq]; · iapply aQ; iexact Hq
    isplitl [H0]; · iapply a0; iexact H0
    isplitl [H1]; · iapply a1; iexact H1
    iapply (rows_intro m fc) $$ Hc
  · iintro ⟨Hx, Hwq, Hk, Hv, Hq, H0, H1, Hc⟩
    isplitl [Hx]; · iexact Hx
    isplitl [Hwq]; · iexact Hwq
    isplitl [Hk]; · iexact Hk
    isplitl [Hv]; · iexact Hv
    isplitl [Hq]; · iexists qC m; iexact Hq
    isplitl [Hc]; · iapply (rows_elim m) $$ Hc
    isplitl [H0]; · iexists khC m; iexact H0
    iexists vhC m; iexact H1

theorem sp_bufs1 : spBufs m 1 ⊢ iprop(resL m (spIn 1) ∗ (resL m (spOut 1) -∗ spBufs m 1)) := by
  rw [show spIn 1 = [.mem (.hsrc 0), .mem (.hsrc 1)] from rfl, show spOut 1 = [.mem (.hsrc 0), .mem (.hsrc 1)] from rfl]
  simp only [resL_cons, resL_nil]
  rw [show resP m (.mem (.hsrc 0)) = (kfM.view.loc ((1 : Dev nD) : Thread nD τ) ↦[kfM.view.set]{fullShare} kC m 1) from rfl,
    show resP m (.mem (.hsrc 1)) = (vfM.view.loc ((1 : Dev nD) : Thread nD τ) ↦[vfM.view.set]{fullShare} vC m 1) from rfl]
  have hk : (wpt 1 cc0_stg2_0 (kC m 1) : sProp 𝕄) ⊣⊢ _ := pointsTo_split_subset (Finset.subset_univ kfM.view.set)
  have hv : (wpt 1 cc0_stg3_0 (vC m 1) : sProp 𝕄) ⊣⊢ _ := pointsTo_split_subset (Finset.subset_univ vfM.view.set)
  unfold spBufs
  iintro ⟨Hx, Hwq, Hk, Hv, Hr⟩
  ihave Hk := hk.1 $$ Hk
  ihave Hv := hv.1 $$ Hv
  icases Hk with ⟨Hk, Hk'⟩
  icases Hv with ⟨Hv, Hv'⟩
  isplitl [Hk Hv]
  · isplitl [Hk]; · iexact Hk
    isplitl [Hv]; · iexact Hv
    iempintro
  · iintro ⟨Hk, Hv, -⟩
    isplitl [Hx]; · iexact Hx
    isplitl [Hwq]; · iexact Hwq
    isplitl [Hk Hk']; · iapply hk.2; isplitl [Hk] <;> iassumption
    isplitl [Hv Hv']; · iapply hv.2; isplitl [Hv] <;> iassumption
    iexact Hr

theorem sp_bufs (c : Dev nD) : spBufs m c ⊢ iprop(resL m (spIn c) ∗ (resL m (spOut c) -∗ spBufs m c)) := by
  by_cases h0 : c = 0
  · subst h0; exact sp_bufs0 m
  by_cases h1 : c = 1
  · subst h1; exact sp_bufs1 m
  rw [show spIn c = [] from (if_neg h0).trans (if_neg h1), show spOut c = [] from (if_neg h0).trans (if_neg h1), resL_nil]
  iintro H
  isplitr
  · iempintro
  · iintro -
    iexact H

end Cert.KI

end
-- ==== Proof.KICheck.lean ====
/-
Every device's list of operations passes the check.
-/
module

public import proofs.«01_k».proof.Proof.KIOps

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos)

variable {F : FTy → Type} [FloatOps F] [Named F]

local notation "𝕄" => MT nD τ sig ℕ (Elt F) ℕ UU ℕ

variable (m : (ℓ : Loc nD τ sig) → Buf (Elt F) ℓ)

set_option maxRecDepth 100000 in
theorem check_ops : ∀ c : Fin 8, check c (finR c) (ops c) (initR c) = true := by decide +kernel

end Cert.KI

end
-- ==== Proof.KIText.lean ====
/-
The printed body is the list of its operations on every device.
-/
module

public import proofs.«01_k».proof.Proof.KIOps

@[expose] public section

noncomputable section

namespace Cert.KI

open Cert.KernelIdeal Cert.KernelIdeal.Gen
open Idealize.ShloMosaic
open Idealize.ShloMosaic.TcCoe
open Idealize.SL Idealize.SL.Sem

variable {F : FTy → Type} [FloatOps F] [Named F]

/-- The kernel's body at its memrefs. -/
abbrev body : Pr F := cc0_body (F := F) xM (Memref.isWhole_whole _) wqM (Memref.isWhole_whole _) kM (Memref.isWhole_whole _) vM (Memref.isWhole_whole _) woM (Memref.isWhole_whole _)
    outM (Memref.isWhole_whole _) qM (Memref.isWhole_whole _) ctxM (Memref.isWhole_whole _) sliceM (Memref.isWhole_whole _) khM (Memref.isWhole_whole _) vhM (Memref.isWhole_whole _) agM (Memref.isWhole_whole _)
    cc0_scratch6 cc0_scratch7 cc0_scratch8 cc0_scratch9 cc0_scratch10 cc0_scratch11

set_option maxRecDepth 100000 in
theorem text : body (F := F) = .op .deviceId fun d => runOps (ops d) := by
  refine (show body (F := F) = .op .deviceId _ from rfl).trans (congrArg (Prog.op _) (funext fun d => ?_))
  match d with
  | 0 => rfl
  | 1 => rfl
  | 2 => rfl
  | 3 => rfl
  | 4 => rfl
  | 5 => rfl
  | 6 => rfl
  | 7 => rfl

end Cert.KI

end
-- ==== Proof.KILaunch.lean ====
/-
The launch: the ghost state that the devices start from, the kernel body's triple, and the run of the whole program.
-/
module

public import proofs.«01_k».proof.Proof.KIMem
public import proofs.«01_k».proof.Proof.KICheck
public import Idealize.ShloMosaic.Lib.Pipeline.BigSepL
public import Idealize.ShloMosaic.Lib.Pipeline.CollectiveSegs
public import proofs.«01_k».proof.Proof.KIText
public import Idealize.ShloMosaic.Lib.Pipeline.Value

@[expose] public section

noncomputable section

namespace Cert.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.TalkSites (Pay tallyL tallyL_pos tallyL_append credOf allPays launchCred_tallyL cred_tallyL)
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ)
variable (ρ : Dev nD → PrngReg)

/-! ## What is owed, the tokens, the credits -/

abbrev allDue : List (Fin 8 × Fin 28) := (List.finRange 8).flatMap fun d => (ops d).flatMap dueA
def dueL (c : Dev nD) : List (Pay nD τ sig) := ((ops c).flatMap dueA).map payT
def O₀ (c : Dev nD) : CellTallies nD τ sig ℕ := tallyL (dueL c)

def tokT (c : Fin 8) : List (Fin 8 × Fin 28 × Fin 8) := (ops c).flatMap fun o => (pre c o).filterMap fun r => match r with | .tok c' k d => some (c', k, d) | _ => none
def tokR (x : Fin 8 × Fin 28 × Fin 8) : Res := .tok x.1 x.2.1 x.2.2
def tokE (x : Fin 8 × Fin 28 × Fin 8) : GSem nD τ sig × ℕ × Fin 8 := (kcell (x.1, x.2.1), 0, x.2.2)
abbrev allToks : List (Fin 8 × Fin 28 × Fin 8) := (List.finRange 8).flatMap tokT

theorem tokE_injective : Function.Injective tokE := by
  rintro ⟨c, k, d⟩ ⟨c', k', d'⟩ h
  have h1 := kcell_injective (congrArg Prod.fst h)
  have h2 : d = d' := congrArg (fun x : GSem nD τ sig × ℕ × Fin 8 => x.2.2) h
  cases h1; cases h2; rfl

theorem allToks_nodup : allToks.Nodup := by decide +kernel

def devCells : Finset (GSem nD τ sig) := Finset.univ.map ⟨kcell, kcell_injective⟩
def devToks : Finset (GSem nD τ sig × ℕ × Fin 8) := (allToks.map tokE).toFinset

def rcv (c : Fin 8) : List (Fin 8 × Fin 28) :=
  (if c = 0 then [(0, kHR 0), (0, kHR 1)] else [(c, kSR)]) ++ [1, 2, 3, 4, 5, 6, 7].map fun j => (c, kAR j)
def crdR (c : Fin 8) : List Res := .crd c kB :: (rcv c).map fun p => .crd p.1 p.2

theorem rcv_ne : ∀ c : Fin 8, ∀ p ∈ rcv c, p.2 ≠ kB := by decide +kernel
theorem due_perm : ∀ c : Fin 8, (allDue.filter fun p => decide (p.1 = c)).Perm (List.replicate 7 (c, kB) ++ rcv c) := by decide +kernel

theorem tallyL_perm {l l' : List (Pay nD τ sig)} (h : l.Perm l') : tallyL l = tallyL l' := by
  induction h with
  | nil => rfl
  | cons x _ ih => show x.tally + _ = x.tally + _; rw [ih]
  | swap x y l => show y.tally + (x.tally + tallyL l) = x.tally + (y.tally + tallyL l); rw [← add_assoc, ← add_assoc, add_comm y.tally]
  | trans _ _ ih ih' => exact ih.trans ih'

theorem tallyL_bar (c : Dev nD) : tallyL ((List.replicate 7 ((c, kB) : Fin 8 × Fin 28)).map payT) = tallyAt (kcell (c, kB)) (lvl c kB) 7 := by
  have e : payT (c, kB) = (kcell (c, kB), lvl c kB, 1) := rfl
  show (payT (c, kB)).tally + ((payT (c, kB)).tally + ((payT (c, kB)).tally + ((payT (c, kB)).tally + ((payT (c, kB)).tally + ((payT (c, kB)).tally + ((payT (c, kB)).tally + 0)))))) = _
  rw [e, add_zero]
  unfold Pay.tally
  dsimp only
  rw [tallyAt_add, tallyAt_add, tallyAt_add, tallyAt_add, tallyAt_add, tallyAt_add]

theorem creds (c : Dev nD) : Pipeline.launchCred O₀ c ⊢ resL m (crdR c) := by
  have e1 : credOf dueL c = (allDue.filter fun p => decide (p.1 = c)).map payT := by
    unfold credOf allPays dueL
    rw [← List.map_flatMap, List.filter_map]
    congr 1
    refine List.filter_congr fun p _ => ?_
    exact decide_eq_decide.mpr ⟨fun h => congrArg Prod.fst h, fun h => congrArg (fun d : Dev nD => (d : Thread nD τ)) h⟩
  have e2 : tallyL (credOf dueL c) = tallyL ((kcell (c, kB), lvl c kB, 7) :: (rcv c).map payT) := by
    rw [e1, tallyL_perm ((due_perm c).map payT), List.map_append, tallyL_append, tallyL_bar]; rfl
  have e3 : ∀ l : List (Fin 8 × Fin 28), (∀ p ∈ l, p.2 ≠ kB) → bigSepL (l.map payT) (fun x => (cred x.tally : sProp 𝕄)) ⊢ resL m (l.map fun p => .crd p.1 p.2) := by
    intro l
    induction l with
    | nil => exact fun _ => .rfl
    | cons p l ih =>
      intro h
      rw [List.map_cons, bigSepL_cons', List.map_cons, resL_cons]
      refine BIClass.sep_mono (Entails.of_eq ?_) (ih fun q hq => h q (List.mem_cons_of_mem _ hq))
      have hp := h p (List.mem_cons_self ..)
      show cred (tallyAt (kcell p) (lvl p.1 p.2) (if p.2 = kB then 1 else N)) = cred (tallyAt (kcell (p.1, p.2)) (lvl p.1 p.2) (units p.2))
      unfold units
      rw [if_neg hp, if_neg hp]
  rw [show Pipeline.launchCred O₀ c = Pipeline.launchCred (fun d => tallyL (dueL d)) c from rfl, launchCred_tallyL dueL (fun c x hx => by
    obtain ⟨p, -, rfl⟩ := List.mem_map.mp hx; rfl) c, e2, cred_tallyL, bigSepL_cons']
  unfold crdR
  rw [resL_cons]
  exact BIClass.sep_mono .rfl (e3 _ (rcv_ne c))

/-! ## The lists in groups -/

abbrev cellsOf (c : Fin 8) : List (Fin 28) := waited c ++ (List.finRange 28).filter fun k => ¬ (k = kB ∨ used c k)
abbrev unwaited (c : Fin 8) : List (Fin 28) := (List.finRange 28).filter fun k => ¬ (k = kB ∨ used c k)
theorem cells_nodup : ∀ c : Fin 8, (waited c ++ unwaited c).Nodup := by decide +kernel
theorem cells_univ : ∀ c : Fin 8, (Finset.univ : Finset (Fin 28)) = (waited c ++ unwaited c).toFinset := by decide +kernel
theorem unwaited_unused : ∀ c : Fin 8, ∀ k ∈ unwaited c, dutySet c k = ∅ := by decide +kernel

def inR (c : Fin 8) : List Res := (tokT c).map tokR ++ ((waited c).map (.at0 c) ++ (crdR c ++ (comIn c ++ spIn c)))
def outR (c : Fin 8) : List Res := (waited c).map (.at1 c) ++ (comOut c ++ spOut c)
theorem in_regroup : ∀ c : Fin 8, removeAll (initR c) (inR c) = some [] := by decide +kernel
theorem out_regroup : ∀ c : Fin 8, removeAll (outR c) (finR c) = some [] := by decide +kernel

/-! ## The ghost state -/

def G (c : Dev nD) : sProp 𝕄 :=
  iprop((bigSep Finset.univ fun k : Fin 28 => roundState ER (Rd m) (kcell (c, k)) 0)
    ∗ (bigSep Finset.univ fun k : Fin 28 => iprop(atPos ER (kcell (c, k)) 0 ∅ 0 ∗ reached ER (kcell (c, k)) 0)) ∗ resL m ((tokT c).map tokR))
def G' (c : Dev nD) : sProp 𝕄 :=
  iprop(∃ K, recs m K ∗ (bigSep Finset.univ fun k : Fin 28 => atPos ER (kcell (c, k)) 0 ∅ 0) ∗ resL m ((tokT c).map tokR))

theorem sepL_flatMap {A B : Type} (f : A → List B) (Φ : B → sProp 𝕄) : ∀ l : List A, bigSepL (l.flatMap f) Φ = bigSepL l fun a => bigSepL (f a) Φ
  | [] => by rw [List.flatMap_nil, bigSepL_nil, bigSepL_nil]
  | a :: l => by rw [List.flatMap_cons, bigSepL_append, bigSepL_cons', sepL_flatMap f Φ l]

theorem fund_devs : BI.own (ER (initOf devCells devToks)) ⊢ (|==> bigSep Finset.univ (G m) : sProp 𝕄) := by
  have hX (Φ : GSem nD τ sig → sProp 𝕄) : bigSep devCells Φ = bigSep Finset.univ fun c : Dev nD => bigSep Finset.univ fun k : Fin 28 => Φ (kcell (c, k)) := by
    unfold devCells; rw [bigSep_map, bigSep_univ_prod]; rfl
  have hN : (allToks.map tokE).Nodup := allToks_nodup.map tokE_injective
  have hT : bigSep devToks (fun x => (dutyTok ER x.1 x.2.1 x.2.2 : sProp 𝕄)) = bigSep Finset.univ fun c : Dev nD => resL m ((tokT c).map tokR) := by
    rw [bigSep_univ_eq_bigSepL (List.finRange 8) (by decide) (by decide), bigSep_eq_bigSepL_of_eq (S := devToks) (allToks.map tokE) rfl hN, bigSepL_map, sepL_flatMap]
    exact congrArg _ (funext fun c => (resL_map m (tokT c) tokR).symm)
  iintro HX
  imod (Rounds.fund ER (Rd m) devCells devToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev osem : Fin 27 → SemLoc sig := fun k => .dma ⟨k.val + 6, show k.val + 6 < 33 by omega⟩
theorem ownSemFacts : Pipeline.OwnSemFacts cfg0.spec osem := by decide

abbrev oSems (c : Dev nD) : sProp 𝕄 := Pipeline.ownSems0 (Ix := ℕ) (Name := ℕ) (U := UU) (Lvl := ℕ) (Val := Elt F) (τ := τ) osem c

theorem sems_eq (c : Dev nD) : iprop(oSems (F := F) c ∗ unscopedSems0 c) = (bigSep Finset.univ fun k : Fin 28 => semVal (kcell (c, k)) 0 : sProp 𝕄) := by
  unfold oSems
  rw [Pipeline.ownSems0_eq_of_list c osem (List.finRange 27) (by decide) (by decide), bigSep_univ_eq_bigSepL ((List.finRange 27).map (fun k => (⟨k.val, Nat.lt_succ_of_lt k.isLt⟩ : Fin 28)) ++ [kB]) (by decide) (by decide),
    bigSepL_append, bigSepL_map]
  unfold unscopedSems0
  rw [bigSep_eq_bigSepL_of_eq [SemLoc.reg barS] (by decide) (by decide), bigSepL_singleton, bigSepL_singleton, sem_bar]
  congr 2
  exact funext fun k => congrArg (fun s => (semVal ((c : Thread nD τ), s) 0 : sProp 𝕄)) (show _ = csem _ by unfold csem; rw [dif_pos k.isLt])

theorem core_alloc (c : Dev nD) :
    iprop(oSems (F := F) c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ resL m ((tokT c).map tokR)) := by
  unfold G
  iintro ⟨Hos, Hus, Hst, Hat, Htok⟩
  ihave Hv := (Entails.of_eq (sems_eq (F := F) c)) $$ [Hos Hus]
  · isplitl [Hos] <;> iassumption
  imod (show iprop((bigSep Finset.univ fun k : Fin 28 => semVal (kcell (c, k)) 0) ∗ bigSep Finset.univ fun k : Fin 28 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_persist {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 28 → ℕ) (c : Dev nD) :
    iprop(recs m K ∗ ((bigSep Finset.univ fun k : Fin 28 => atPos ER (kcell (c, k)) 0 ∅ 0) ∗ resL m ((tokT c).map tokR))) ⊢ G' m c := by
  unfold G'
  iintro ⟨H, H', H''⟩
  iexists K
  isplitl [H]; · iexact H
  isplitl [H'] <;> iassumption

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ resL m ((tokT c).map tokR)) : sProp 𝕄)
      ⊢ bigSep Finset.univ (G' m) := by
  rw [bigSep_sep', bigSep_sep', ← bigSep_univ_prod (fun ck : Dev nD × Fin 28 => iprop(∃ κ : ℕ, cellInv ER (Rd m) κ (kcell ck))),
    bigSep_congr (s := Finset.univ) (fun (c : Dev nD) _ => bigSep_sep' Finset.univ (fun k : Fin 28 => (atPos ER (kcell (c, k)) 0 ∅ 0 : sProp 𝕄)) (fun k => reached ER (kcell (c, k)) 0)),
    bigSep_sep', ← bigSep_univ_prod (fun ck : Dev nD × Fin 28 => (reached ER (kcell ck) 0 : sProp 𝕄))]
  iintro ⟨HI, ⟨Hat, #HR⟩, Htok⟩
  ihave HK := (BI.bigSep_exists_pi Finset.univ (fun (ck : Dev nD × Fin 28) (κ : ℕ) => (cellInv ER (Rd m) κ (kcell ck) : sProp 𝕄))) $$ HI
  icases HK with ⟨%K, #HI⟩
  iapply (bigSep_persist (R := recs m K) (Φ := fun c : Dev nD => iprop((bigSep Finset.univ fun k : Fin 28 => atPos ER (kcell (c, k)) 0 ∅ 0) ∗ resL m ((tokT c).map tokR)))
    fun c _ => G'_intro m K c)
  isplitr
  · unfold recs; isplitl; · iexact HI
    iexact HR
  · iapply (Entails.of_eq (bigSep_sep' Finset.univ (fun c : Dev nD => bigSep Finset.univ fun k : Fin 28 => (atPos ER (kcell (c, k)) 0 ∅ 0 : sProp 𝕄)) fun c => resL m ((tokT c).map tokR)).symm)
    isplitl [Hat]; · iexact Hat
    iexact Htok

theorem glob : (bigSep Finset.univ fun c => iprop(oSems (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The cells closed -/

theorem close_list (K : Dev nD × Fin 28 → ℕ) (c : Dev nD) (R : ℕ) : ∀ l : List (Fin 28), (∀ k ∈ l, ∀ r, R ≤ r → (Rd (F := F) m).duties (kcell (c, k)) r = ∅) →
    iprop(ctx m K ∗ bigSepL l fun k => atPos ER (kcell (c, k)) R ∅ 0) ⊢ |={Set.univ}=> (bigSepL l fun k => semVal (kcell (c, k)) 0 : sProp 𝕄)
  | [], _ => by
    rw [bigSepL_nil, bigSepL_nil]
    iintro -
    imodintro
    iempintro
  | k :: l, h => by
    rw [bigSepL_cons', bigSepL_cons']
    iintro ⟨#HC, Hat, Hl⟩
    imod (Rounds.cell_close ER (Rd m) (Set.mem_univ (K (c, k))) (fun h => h) (R := R) (h k (List.mem_cons_self ..))) $$ [Hat] with Hz
    · isplitr
      · iapply (ctx_inv m K (c, k)); iexact HC
      iexact Hat
    imod (close_list K c R l fun k' hk => h k' (List.mem_cons_of_mem _ hk)) $$ [Hl] with Hzl
    · isplitr
      · iexact HC
      iexact Hl
    imodintro
    isplitl [Hz] <;> iassumption

theorem close_all (K : Dev nD × Fin 28 → ℕ) (c : Dev nD) :
    iprop(ctx m K ∗ (bigSepL (waited c) fun k => atPos ER (kcell (c, k)) 1 ∅ 0) ∗ bigSepL (unwaited c) fun k => atPos ER (kcell (c, k)) 0 ∅ 0)
      ⊢ |={Set.univ}=> (bigSep Finset.univ fun k : Fin 28 => semVal (kcell (c, k)) 0 : sProp 𝕄) := by
  rw [bigSep_eq_bigSepL_of_eq (waited c ++ unwaited c) (cells_univ c) (cells_nodup c), bigSepL_append]
  iintro ⟨#HC, H1, H0⟩
  imod (close_list m K c 1 (waited c) fun k _ => Rd_later m _) $$ [H1] with Hz1
  · isplitr
    · iexact HC
    iexact H1
  imod (close_list m K c 0 (unwaited c) fun k hk => Rd_unused m c k (unwaited_unused c k hk)) $$ [H0] with Hz0
  · isplitr
    · iexact HC
    iexact H0
  imodintro
  isplitl [Hz1] <;> iassumption

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev lvs : sProp 𝕄 := levAts (SiteBlocks.L (nD := nD) (τ := τ) (sig := sig) 12) SiteBlocks.lv

def start (c : Dev nD) : sProp 𝕄 := iprop(G' m c ∗ resL m (crdR c) ∗ lvs (F := F))
def scr (c : Dev nD) : sProp 𝕄 :=
  iprop(wany c cc0_scratch0 ∗ wany c cc0_scratch1 ∗ wany c cc0_scratch2 ∗ wany c cc0_scratch3 ∗ wany c cc0_scratch4 ∗ wany c cc0_scratch5)
def Φ₀ (c : Dev nD) : sProp 𝕄 := iprop(start m c ∗ scr (F := F) c)
def Φ₁ (c : Dev nD) : sProp 𝕄 := iprop((bigSep Finset.univ fun k : Fin 28 => semVal (kcell (c, k)) 0) ∗ scr (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xA m c
    | ⟨1, _⟩ => wqA m c
    | ⟨2, _⟩ => kC m c
    | ⟨3, _⟩ => vC m c
    | ⟨4, _⟩ => woC m c
    | ⟨5, _⟩ => outC m
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_in (w : Fin 6) (h : w ≠ 5) (t : Fin cfg0.N) : (cfg0.win w).fetch t = true := by
  rw [fin_N t]
  match w, h with
  | ⟨0, _⟩, _ => rfl
  | ⟨1, _⟩, _ => rfl
  | ⟨2, _⟩, _ => rfl
  | ⟨3, _⟩, _ => rfl
  | ⟨4, _⟩, _ => rfl
  | ⟨5, _⟩, h => exact absurd rfl h

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_eq (c : Dev nD) (b : Ref sig .tc) (X : b.ty.Contents (Elt F)) : stg c b X ⊢ wpt c b X := by
  unfold stg wpt
  iintro ⟨%f, %h, H⟩
  subst h
  iexact H

theorem stg_intro (c : Dev nD) (b : Ref sig .tc) (X : b.ty.Contents (Elt F)) : wpt c b X ⊢ stg c b X := by
  unfold stg wpt
  iintro H
  iexists X
  isplitr
  · ipureintro; rfl
  · iexact H

def bodyPre (c : Dev nD) : sProp 𝕄 :=
  iprop(Φ₀ m c ∗ (dats m ρ 0 c).owesAt 0 t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))

def bodyPost (c : Dev nD) : sProp 𝕄 :=
  iprop(Φ₁ c ∗ (dats m ρ 0 c).owesAt 0 t₀.succ
    ∗ stg c cc0_stg0_0 (xA m c) ∗ stg c cc0_stg1_0 (wqA m c) ∗ stg c cc0_stg2_0 (kC m c) ∗ stg c cc0_stg3_0 (vC m c) ∗ stg c cc0_stg4_0 (woC m c) ∗ stg c cc0_stg5_0 (outC m))

theorem before_eq (c : Dev nD) (d0 d1 d2 d3 d4) :
    (dats m ρ 0 c).before (0 : Fin 6) t₀ d0 = xA m c ∧ (dats m ρ 0 c).before (1 : Fin 6) t₀ d1 = wqA m c ∧ (dats m ρ 0 c).before (2 : Fin 6) t₀ d2 = kC m c
      ∧ (dats m ρ 0 c).before (3 : Fin 6) t₀ d3 = vC m c ∧ (dats m ρ 0 c).before (4 : Fin 6) t₀ d4 = woC m c := by
  refine ⟨?_, ?_, ?_, ?_, ?_⟩
  · unfold Dat.before; rw [if_pos (fetch_in 0 (by decide) t₀)]; rfl
  · unfold Dat.before; rw [if_pos (fetch_in 1 (by decide) t₀)]; rfl
  · unfold Dat.before; rw [if_pos (fetch_in 2 (by decide) t₀)]; rfl
  · unfold Dat.before; rw [if_pos (fetch_in 3 (by decide) t₀)]; rfl
  · unfold Dat.before; rw [if_pos (fetch_in 4 (by decide) t₀)]; rfl

/-- The positions of a device's cells, those that it waits on first. -/
theorem at_split (c : Dev nD) :
    (bigSep Finset.univ fun k : Fin 28 => (atPos ER (kcell (c, k)) 0 ∅ 0 : sProp 𝕄)) = iprop(resL m ((waited c).map (.at0 c)) ∗ bigSepL (unwaited c) fun k => atPos ER (kcell (c, k)) 0 ∅ 0) := by
  rw [bigSep_eq_bigSepL_of_eq (waited c ++ unwaited c) (cells_univ c) (cells_nodup c), bigSepL_append, resL_map]
  rfl

/-- The list run from the buffers and the ghost state. -/
theorem run_body (K : Dev nD × Fin 28 → ℕ) (c : Dev nD) (W : Waits sig ℕ) (Q : PUnit → sProp 𝕄) :
    iprop(ctx m K ∗ (resL m ((tokT c).map tokR) ∗ resL m ((waited c).map (.at0 c)) ∗ resL m (crdR c) ∗ resL m (comIn c) ∗ resL m (spIn c)) ∗ owes (c : Thread nD τ) (O₀ c) W
        ∗ (∀ W', ((bigSepL (waited c) fun k => atPos ER (kcell (c, k)) 1 ∅ 0) ∗ resL m (comOut c) ∗ resL m (spOut c) ∗ owes (c : Thread nD τ) 0 W') -∗ Q ⟨⟩))
      ⊢ WP c (runOps (ops c)) Q := by
  have hin : iprop(resL m ((tokT c).map tokR) ∗ resL m ((waited c).map (.at0 c)) ∗ resL m (crdR c) ∗ resL m (comIn c) ∗ resL m (spIn c)) ⊢ resL m (inR c) := by
    unfold inR
    refine BIBase.Entails.trans (sep_mono_right ?_) (resL_append m _ _).2
    refine BIBase.Entails.trans (sep_mono_right ?_) (resL_append m _ _).2
    refine BIBase.Entails.trans (sep_mono_right ?_) (resL_append m _ _).2
    exact (resL_append m _ _).2
  have hin' : resL m (inR c) ⊢ resL m (initR c) := (resL_removeAll m _ _ _ (in_regroup c)).trans (sep_emp (PROP := sProp 𝕄)).1
  have hout : resL m (finR c) ⊢ iprop((bigSepL (waited c) fun k => atPos ER (kcell (c, k)) 1 ∅ 0) ∗ resL m (comOut c) ∗ resL m (spOut c)) := by
    refine (resL_removeAll m _ _ _ (out_regroup c)).trans ((sep_emp (PROP := sProp 𝕄)).1.trans ?_)
    unfold outR
    refine (resL_append m _ _).1.trans ?_
    rw [resL_map]
    exact sep_mono_right (resL_append m _ _).1
  iintro ⟨#HC, HR, HO, Hk⟩
  iapply (run_sound m c (triples m c) K (finR c) Q (ops c) (initR c) W (check_ops c))
  isplitr
  · iexact HC
  isplitl [HR]
  · iapply hin'
    iapply hin
    iexact HR
  isplitl [HO]
  · iexact HO
  iintro %W' ⟨HF, HO⟩
  ihave HF := hout $$ HF
  icases HF with ⟨H1, H2, H3⟩
  iapply Hk $$ %W'
  isplitl [H1]; · iexact H1
  isplitl [H2]; · iexact H2
  isplitl [H3]; · iexact H3
  iexact HO

set_option maxRecDepth 4000 in
theorem sound_body (c : Dev nD) : bodyPre m ρ c ⊢ WP c body (fun _ => bodyPost m ρ c) := by
  rw [text]
  simp only [WP, wp_deviceId]
  unfold bodyPre Φ₀ start G' scr Dat.owesAt Pipeline.owesWithin
  iintro ⟨⟨⟨⟨%K, #HK, Hat, Htk⟩, Hcr, #Hlv⟩, Hs0, Hs1, Hs2, Hs3, Hs4, Hs5⟩, ⟨%W, %hW, HO⟩, ⟨%d0, H0⟩, ⟨%d1, H1⟩, ⟨%d2, H2⟩, ⟨%d3, H3⟩, ⟨%d4, H4⟩, ⟨%d5, H5⟩⟩
  obtain ⟨e0, e1, e2, e3, e4⟩ := before_eq m ρ c d0 d1 d2 d3 d4
  ihave H0 := ((stg_eq c cc0_stg0_0 _).trans (Entails.of_eq (congrArg (wpt c cc0_stg0_0) e0))) $$ H0
  ihave H1 := ((stg_eq c cc0_stg1_0 _).trans (Entails.of_eq (congrArg (wpt c cc0_stg1_0) e1))) $$ H1
  ihave H2 := ((stg_eq c cc0_stg2_0 _).trans (Entails.of_eq (congrArg (wpt c cc0_stg2_0) e2))) $$ H2
  ihave H3 := ((stg_eq c cc0_stg3_0 _).trans (Entails.of_eq (congrArg (wpt c cc0_stg3_0) e3))) $$ H3
  ihave H4 := ((stg_eq c cc0_stg4_0 _).trans (Entails.of_eq (congrArg (wpt c cc0_stg4_0) e4))) $$ H4
  ihave H5 := (stg_eq c cc0_stg5_0 _) $$ H5
  ihave Hc := (com_bufs m c) $$ [H4 H5 Hs2 Hs5]
  · isplitl [H4]; · iexact H4
    isplitl [H5]; · iexists _; iexact H5
    isplitl [Hs2] <;> iassumption
  icases Hc with ⟨Hci, Hco⟩
  ihave Hs := (sp_bufs m c) $$ [H0 H1 H2 H3 Hs0 Hs1 Hs3 Hs4]
  · unfold spBufs
    isplitl [H0]; · iexact H0
    isplitl [H1]; · iexact H1
    isplitl [H2]; · iexact H2
    isplitl [H3]; · iexact H3
    isplitl [Hs0]; · iexact Hs0
    isplitl [Hs1]; · iexact Hs1
    isplitl [Hs3] <;> iassumption
  icases Hs with ⟨Hsi, Hso⟩
  ihave Ha := (Entails.of_eq (at_split m c)) $$ Hat
  icases Ha with ⟨Haw, Hau⟩
  ihave #HC := (show iprop(recs m K ∗ lvs (F := F)) ⊢ ctx m K from .rfl) $$ [HK Hlv]
  · isplitl; · iexact HK
    iexact Hlv
  iapply (wp_fupd (Fr := frame) (wpE := wpE (defs₀ (F := F)) 𝒱₀ (c : Thread nD τ) none) (E := Set.univ) (p := runOps (ops c)) (Q := fun _ => bodyPost m ρ c))
  iapply (run_body m K c W fun _ => iprop(|={Set.univ}=> bodyPost m ρ c))
  isplitr
  · iexact HC
  isplitl [Htk Haw Hcr Hci Hsi]
  · isplitl [Htk]; · iexact Htk
    isplitl [Haw]; · iexact Haw
    isplitl [Hcr]; · iexact Hcr
    isplitl [Hci] <;> iassumption
  isplitl [HO]
  · iexact HO
  iintro %W' ⟨Ha1, Hc, Hs, HO⟩
  ihave Hc := Hco $$ Hc
  ihave Hs := Hso $$ Hs
  imod (close_all m K c) $$ [Ha1 Hau] with Hz
  · isplitr
    · iexact HC
    isplitl [Ha1] <;> iassumption
  imodintro
  unfold bodyPost Φ₁ scr spBufs Dat.owesAt Pipeline.owesWithin
  icases Hc with ⟨H4, H5, Hs2, Hs5⟩
  icases Hs with ⟨H0, H1, H2, H3, Hs0, Hs1, Hs3, Hs4⟩
  isplitl [Hz Hs0 Hs1 Hs2 Hs3 Hs4 Hs5]
  · isplitl [Hz]; · iexact Hz
    isplitl [Hs0]; · iexact Hs0
    isplitl [Hs1]; · iexact Hs1
    isplitl [Hs2]; · iexact Hs2
    isplitl [Hs3]; · iexact Hs3
    isplitl [Hs4] <;> iassumption
  isplitl [HO]
  · iexists W'
    isplitr
    · ipureintro; exact fun _ _ => Or.inl trivial
    iexact HO
  isplitl [H0]; · iapply (stg_intro c cc0_stg0_0) $$ H0
  isplitl [H1]; · iapply (stg_intro c cc0_stg1_0) $$ H1
  isplitl [H2]; · iapply (stg_intro c cc0_stg2_0) $$ H2
  isplitl [H3]; · iapply (stg_intro c cc0_stg3_0) $$ H3
  isplitl [H4]; · iapply (stg_intro c cc0_stg4_0) $$ H4
  iapply (stg_intro c cc0_stg5_0) $$ H5

set_option maxRecDepth 4000 in
theorem body_obligation (c : Dev nD) : BodyObligation (dats (F := F) m ρ 0 c) (defs₀ (F := F)) 𝒱₀ 0 Set.univ := fun t => by
  rw [fin_N t]
  rw [bigSep_W0, bigSep_W0]
  simp only [owns_whole_eq]
  show bodyPre m ρ c ⊢ WP c body (fun _ => bodyPost m ρ c)
  exact sound_body m ρ c

/-! ## The run -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf devCells devToks)

theorem start_intro (c : Dev nD) :
    iprop(Pipeline.unscopedRestP Pipeline.Prefetch.none cfg0.spec c (fun b => m ((c : Thread nD τ).loc b)) ∗ lvs (F := F) ∗ Pipeline.launchCred O₀ c ∗ prngReg c (ρ c) ∗ G' m c)
      ⊢ |={Set.univ}=> iprop(start m c ∗ emp) := by
  iintro ⟨-, Hlev, Hcr, -, HG⟩
  ihave Hc := (creds m c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c) ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [← sems_eq]
  iintro ⟨⟨Ho, Hu⟩, Hr⟩
  isplitl [Hu]; · iexact Hu
  isplitl [Ho]; · iexact Ho
  iexact Hr

theorem due_pos : ∀ c : Fin 8, (((ops c).flatMap dueA).all fun p => decide (0 < lvl p.1 p.2)) = true := by decide +kernel

theorem waits (c : Dev nD) : lvs (F := F) ⊢ Pipeline.cellsWaits cfgs (dats m ρ) 0 0 c :=
  Pipeline.cellsWaits_intro cfgs (dats m ρ) 0 0 c fun w s t => SiteBlocks.mayWait_of (by decide) c _ _ fun g k hk => by
    rcases t with ⟨_ | _, ht⟩
    · obtain ⟨x, hx, rfl, rfl⟩ := tallyL_pos (l := dueL c) hk
      obtain ⟨p, hp, rfl⟩ := List.mem_map.mp hx
      exact ⟨SiteBlocks.mem_L' rfl (lvl_lt _ _), of_decide_eq_true (List.all_eq_true.mp (due_pos c) p hp)⟩
    · exact absurd hk (Nat.lt_irrefl 0)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := SiteBlocks.L 12) (lv := SiteBlocks.lv) (hL := SiteBlocks.hL 12) (hwaits := waits m ρ)
    (G := G m) (G' := G' m) (u₀ := u₀)
    (hu₀ := by
      unfold u₀
      iintro Hu
      ihave H := (ownU_pair _ _) $$ Hu
      icases H with ⟨HP, HX⟩
      imod (fund_devs m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin 6) (h : w ≠ 5) : finalA m ρ c w = (s₀ m ρ).mem ((cfg0.win w).arr.view.loc (c : Thread nD τ)) :=
  (dats m ρ 0 c).arrAt_in w (by match w, h with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h) _

/-- The frame: every run ends with the arguments unchanged and every counter at zero. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c (0 : Fin 6)).trans (finalA_in m ρ c 0 (by decide)), (h.1 c (1 : Fin 6)).trans (finalA_in m ρ c 1 (by decide)),
    (h.1 c (2 : Fin 6)).trans (finalA_in m ρ c 2 (by decide)), (h.1 c (3 : Fin 6)).trans (finalA_in m ρ c 3 (by decide)), (h.1 c (4 : Fin 6)).trans (finalA_in m ρ c 4 (by decide))⟩, h.2⟩) (run_main m ρ)

end Cert.KI

end
-- ==== Proof.KIOut.lean ====
module

public import proofs.«01_k».proof.Proof.KILaunch
public import Idealize.ShloMosaic.Lib.Pipeline.Value

@[expose] public section

noncomputable section

namespace Cert.KI

open Cert.KernelIdeal Cert.KernelIdeal.Gen
open Idealize.ShloMosaic
open Idealize.ShloMosaic.TcCoe
open Idealize.SL Idealize.SL.Sem
open Idealize.ShloMosaic.ValueIdx
open Idealize.ShloMosaic.Pipeline (Dat Cfg Window BodyObligation cellOf)

variable {F : FTy → Type} [FloatOps F] [Named F]
variable (m : (ℓ : Loc nD τ sig) → Buf (Elt F) ℓ) (ρ : Dev nD → PrngReg)

/-! ## A window over a whole array: its one block is the array -/

theorem read0 (f : Vec F S1024x1024 .f32) : (win0_0.blk (0 : Fin 1)).view.read (Elt F) f = f := by
  funext i; rw [View.read_apply]; refine congrArg f ?_; funext a; apply Fin.ext
  match a with
  | ⟨0, _⟩ => exact Window.rect_emb_val_of_index_zero win0_0 (0 : Fin 1) (0 : Fin 2) (by decide) i
  | ⟨1, _⟩ => exact Window.rect_emb_val_of_index_zero win0_0 (0 : Fin 1) (1 : Fin 2) (by decide) i

theorem read1 (f : Vec F S1024x1024 .f32) : (win0_1.blk (0 : Fin 1)).view.read (Elt F) f = f := by
  funext i; rw [View.read_apply]; refine congrArg f ?_; funext a; apply Fin.ext
  match a with
  | ⟨0, _⟩ => exact Window.rect_emb_val_of_index_zero win0_1 (0 : Fin 1) (0 : Fin 2) (by decide) i
  | ⟨1, _⟩ => exact Window.rect_emb_val_of_index_zero win0_1 (0 : Fin 1) (1 : Fin 2) (by decide) i

theorem read2 (f : Vec F S1024x1024 .f32) : (win0_2.blk (0 : Fin 1)).view.read (Elt F) f = f := by
  funext i; rw [View.read_apply]; refine congrArg f ?_; funext a; apply Fin.ext
  match a with
  | ⟨0, _⟩ => exact Window.rect_emb_val_of_index_zero win0_2 (0 : Fin 1) (0 : Fin 2) (by decide) i
  | ⟨1, _⟩ => exact Window.rect_emb_val_of_index_zero win0_2 (0 : Fin 1) (1 : Fin 2) (by decide) i

theorem read3 (f : Vec F S1024x1024 .f32) : (win0_3.blk (0 : Fin 1)).view.read (Elt F) f = f := by
  funext i; rw [View.read_apply]; refine congrArg f ?_; funext a; apply Fin.ext
  match a with
  | ⟨0, _⟩ => exact Window.rect_emb_val_of_index_zero win0_3 (0 : Fin 1) (0 : Fin 2) (by decide) i
  | ⟨1, _⟩ => exact Window.rect_emb_val_of_index_zero win0_3 (0 : Fin 1) (1 : Fin 2) (by decide) i

theorem read4 (f : Vec F S1024x1024 .f32) : (win0_4.blk (0 : Fin 1)).view.read (Elt F) f = f := by
  funext i; rw [View.read_apply]; refine congrArg f ?_; funext a; apply Fin.ext
  match a with
  | ⟨0, _⟩ => exact Window.rect_emb_val_of_index_zero win0_4 (0 : Fin 1) (0 : Fin 2) (by decide) i
  | ⟨1, _⟩ => exact Window.rect_emb_val_of_index_zero win0_4 (0 : Fin 1) (1 : Fin 2) (by decide) i

theorem read5 (f : Vec F S1024x1024 .f32) : (win0_5.blk (0 : Fin 1)).view.read (Elt F) f = f := by
  funext i; rw [View.read_apply]; refine congrArg f ?_; funext a; apply Fin.ext
  match a with
  | ⟨0, _⟩ => exact Window.rect_emb_val_of_index_zero win0_5 (0 : Fin 1) (0 : Fin 2) (by decide) i
  | ⟨1, _⟩ => exact Window.rect_emb_val_of_index_zero win0_5 (0 : Fin 1) (1 : Fin 2) (by decide) i

theorem xC_eq : xC m = m (((0 : Dev nD) : Thread nD τ).loc main_arg0) := read0 _
theorem wqC_eq : wqC m = m (((0 : Dev nD) : Thread nD τ).loc main_arg1) := read1 _
theorem kC_eq (c : Dev nD) : kC m c = m ((c : Thread nD τ).loc main_arg2) := read2 _
theorem vC_eq (c : Dev nD) : vC m c = m ((c : Thread nD τ).loc main_arg3) := read3 _
theorem woC_eq (c : Dev nD) : woC m c = m ((c : Thread nD τ).loc main_arg4) := read4 _

theorem flushed_eq (c : Dev nD) (t : Fin cfg0.N) : (dats m ρ 0 c).flushed (5 : Fin 6) t = ((cfg0.win (5 : Fin 6)).blk t).view.read (Elt F) (outC m) := by
  obtain rfl : t = (0 : Fin 1) := fin_N t
  have ha : (dats m ρ 0 c).after (5 : Fin 6) (0 : Fin 1) = outC m := rfl
  unfold Pipeline.Dat.flushed
  rw [ha]
  exact (show (cfg0.win (5 : Fin 6)).cut (cfg0.grid.coords (0 : Fin 1)) (outC m) = outC m from rfl).trans (read5 _).symm

/-- The result array ends holding the whole result, on every device. -/
theorem finalA_out (c : Dev nD) : finalA m ρ c (5 : Fin 6) = outC m := by
  have h := (dats m ρ 0 c).read_blk_arrAt (5 : Fin 6) (outC m) (fun t _ => flushed_eq m ρ c t) (0 : Fin 1) (by decide)
  exact ((read5 _).symm.trans h).trans (read5 _)

/-- The run: every device's result array ends holding the whole result, its arguments unchanged. -/
theorem run_value : θ_run (defs (F := F)) (onTc (τ := τ) (main (F := F))) ⟨m, fun _ => 0, ρ⟩ (fun r => ∀ c : Dev nD,
      r.2.mem ((c.tc : Thread nD τ).loc main_v1) = outC m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c (5 : Fin 6)).trans (finalA_out m ρ c),
    (h.1 c (0 : Fin 6)).trans (finalA_in m ρ c 0 (by decide)), (h.1 c (1 : Fin 6)).trans (finalA_in m ρ c 1 (by decide)),
    (h.1 c (2 : Fin 6)).trans (finalA_in m ρ c 2 (by decide)), (h.1 c (3 : Fin 6)).trans (finalA_in m ρ c 3 (by decide)), (h.1 c (4 : Fin 6)).trans (finalA_in m ρ c 4 (by decide))⟩) (run_main m ρ)

end Cert.KI

end
-- ==== Proof.Near.lean ====
module

public import Idealize.ShloMosaic.PureOps.Ideal
public import Idealize.ShloMosaic.Lib.WordCmp

@[expose] public section

noncomputable section

namespace Cert.Attn

open Idealize.ShloMosaic

/-! ## The window's test in 32-bit words -/

theorem absi_sub (a b : ℕ) (ha : a < 2 ^ 30) (hb : b < 2 ^ 30) :
    IntOp.absi (IntOp.subi (BitVec.ofNat 32 a) (BitVec.ofNat 32 b)) = BitVec.ofNat 32 (a - b + (b - a)) := by
  have key : ∀ x : BitVec 32, x.toNat < 2 ^ 31 → IntOp.absi x = x := fun x hx => by
    have : x.msb = false := BitVec.msb_eq_false_iff_two_mul_lt.2 (by omega)
    unfold IntOp.absi; rw [this]; rfl
  have key' : ∀ x : BitVec 32, 2 ^ 31 ≤ x.toNat → IntOp.absi x = -x := fun x hx => by
    have : x.msb = true := BitVec.msb_eq_true_iff_two_mul_ge.2 (by omega)
    unfold IntOp.absi; rw [this]; rfl
  rcases Nat.lt_or_ge a b with h | h
  · have e : (IntOp.subi (BitVec.ofNat 32 a) (BitVec.ofNat 32 b)).toNat = 2 ^ 32 - (b - a) := by
      unfold IntOp.subi
      rw [BitVec.toNat_sub, BitVec.toNat_ofNat, BitVec.toNat_ofNat]; omega
    rw [key' _ (by rw [e]; omega)]
    apply BitVec.eq_of_toNat_eq
    rw [BitVec.toNat_neg, e, BitVec.toNat_ofNat]; omega
  · have e : (IntOp.subi (BitVec.ofNat 32 a) (BitVec.ofNat 32 b)).toNat = a - b := by
      unfold IntOp.subi
      rw [BitVec.toNat_sub, BitVec.toNat_ofNat, BitVec.toNat_ofNat]; omega
    rw [key _ (by rw [e]; omega)]
    apply BitVec.eq_of_toNat_eq
    rw [e, BitVec.toNat_ofNat]; omega

theorem sle_128 (n : ℕ) (hn : n < 2 ^ 31) : IntOp.cmpi .sle (BitVec.ofNat 32 n) 128#32 = if n ≤ 128 then 1#1 else 0#1 := by
  have e : (BitVec.ofNat 32 n).toInt = (n : ℤ) := WordCmp.toInt_ofNat_of_lt (by omega)
  have e' : (128#32).toInt = (128 : ℤ) := rfl
  simp only [IntOp.cmpi, BitVec.sle, e, e']
  by_cases h : n ≤ 128
  · rw [if_pos h, decide_eq_true (by omega)]; rfl
  · rw [if_neg h, decide_eq_false (by omega)]; rfl

/-- The key at row b is in the window of the query at row a: no further than 128 rows away. -/
def Near (a b : ℕ) : Prop := a ≤ b + 128 ∧ b ≤ a + 128
instance (a b : ℕ) : Decidable (Near a b) := instDecidableAnd

theorem near_eq (a b : ℕ) (ha : a < 2 ^ 30) (hb : b < 2 ^ 30) :
    IntOp.cmpi .sle (IntOp.absi (IntOp.subi (BitVec.ofNat 32 a) (BitVec.ofNat 32 b))) 128#32 = if Near a b then 1#1 else 0#1 := by
  rw [absi_sub a b ha hb, sle_128 _ (by omega)]
  exact if_congr (by unfold Near; omega) rfl rfl

theorem near_eq' (a b : ℕ) (ha : a < 2 ^ 29) (hb : b < 2 ^ 29) :
    IntOp.cmpi .sle (IntOp.absi (IntOp.addi (IntOp.subi (BitVec.ofNat 32 a) (BitVec.ofNat 32 b)) 128#32)) 128#32 = if Near (a + 128) b then 1#1 else 0#1 := by
  rw [← near_eq (a + 128) b (by omega) (by omega)]
  congr 2
  unfold IntOp.addi IntOp.subi
  rw [BitVec.ofNat_add]
  rw [BitVec.sub_eq_add_neg, BitVec.sub_eq_add_neg, BitVec.add_assoc, BitVec.add_assoc, BitVec.add_comm (-BitVec.ofNat 32 b)]

end Cert.Attn

end
-- ==== Proof.KIPure.lean ====
module

public import proofs.«01_k».proof.Proof.KIOut
public import proofs.«01_k».proof.Proof.Near
public import Idealize.ShloMosaic.Lib.Pointwise
public import Idealize.ShloMosaic.Lib.Pointwise.IndexBridge

@[expose] public section

noncomputable section

namespace Cert.KI

open Cert.KernelIdeal Cert.KernelIdeal.Gen
open Idealize.ShloMosaic
open Idealize.ShloMosaic.TcCoe
open Cert.Attn

theorem mask_bot : Named.named (F := Ideal) Cert.KernelIdeal.κ "mask" (φ := .f32) 0xCE6E6B28#32 = ⊥ :=
  IdealRules.named_const.ideal_named_scalar _ _ _ _ rfl

theorem hcol_lt (h : Fin 8) (d : Fin 128) : 128 * h.val + d.val < 1024 := by omega
theorem row_lt (q : Fin 8) (r : Fin 128) : 128 * q.val + r.val < 1024 := by omega

theorem headW_apply (mask : IVec S128x384 1) (q : Vec Ideal S128x1024 .f32) (k : FVec Ideal S384x1024 .f32) (h : Fin 8) (r : Fin 128) (b : Fin 384) :
    headW mask q k h (ix2 r b) = Ideal.exp (Scalar.select (mask (ix2 r b))
      ((∑ d : Fin 128, q (ix2 r ⟨128 * h.val + d.val, hcol_lt h d⟩) * k (ix2 b ⟨128 * h.val + d.val, hcol_lt h d⟩)) * Ideal.ofBits .f32 0x3DB504F3#32) ⊥) := by
  pointwise [headW, mask_bot]

theorem headC_apply (mask : IVec S128x384 1) (q : Vec Ideal S128x1024 .f32) (k v : FVec Ideal S384x1024 .f32) (h : Fin 8) (r d : Fin 128) :
    headC mask q k v h (ix2 r d) = Ideal.div (∑ b : Fin 384, headW mask q k h (ix2 r b) * v (ix2 b ⟨128 * h.val + d.val, hcol_lt h d⟩)) (∑ b : Fin 384, headW mask q k h (ix2 r b)) := by
  pointwise [headC]

theorem pay194_apply (s : Vec Ideal S128x1024 .f32) (w : Vec Ideal S1024x1024 .f32) (r : Fin 128) (n : Fin 1024) :
    k0_pay194 s w (ix2 r n) = ∑ c : Fin 1024, s (ix2 r c) * w (ix2 c n) := by
  pointwise [k0_pay194]

theorem pay1_apply (x w : Vec Ideal S1024x1024 .f32) (i n : Fin 1024) :
    k0_pay1 x w (ix2 i n) = ∑ c : Fin 1024, x (ix2 i c) * w (ix2 c n) := by
  pointwise [k0_pay1]

theorem pay105_apply (x : Vec Ideal S256x1024 .f32) (w : Vec Ideal S128x1024 .f32) (b : Fin 384) (n : Fin 1024) :
    k0_pay105 x w (ix2 b n) = if h : b.val < 256 then x (ix2 ⟨b.val, h⟩ n) else w (ix2 ⟨b.val - 256, by omega⟩ n) := by
  pointwise [k0_pay105]

theorem pay106_apply (x : Vec Ideal S256x1024 .f32) (w : Vec Ideal S128x1024 .f32) (b : Fin 384) (n : Fin 1024) :
    k0_pay106 x w (ix2 b n) = if h : b.val < 256 then x (ix2 ⟨b.val, h⟩ n) else w (ix2 ⟨b.val - 256, by omega⟩ n) := by
  pointwise [k0_pay106]

theorem pay4_apply (x : Vec Ideal S384x1024 .f32) : k0_pay4 x = x := by
  funext i
  idx_vars i
  pointwise [k0_pay4]
theorem pay5_apply (x : Vec Ideal S384x1024 .f32) : k0_pay5 x = x := by
  funext i
  idx_vars i
  pointwise [k0_pay5]

/-- The row of the whole K that a band's row b is, for row block q. -/
def keyRow (q : Fin 8) (b : Fin 384) : Fin 8192 := ⟨128 * q.val - 128 + b.val, by omega⟩

theorem maskC_apply (q : Fin 8) (r : Fin 128) (b : Fin 384) :
    maskC q (ix2 r b) = if Near (128 * q.val + r.val) (keyRow q b).val then 1#1 else 0#1 := by
  unfold maskC
  by_cases hq : q = 0
  · subst hq
    rw [if_pos rfl]
    pointwise [k0_pay2]
    rw [near_eq r.val b.val (by omega) (by omega)]
    exact if_congr (by unfold Near keyRow; simp) rfl rfl
  · rw [if_neg hq]
    have : 0 < q.val := Nat.pos_of_ne_zero fun h => hq (Fin.ext h)
    pointwise [k0_pay3]
    rw [near_eq' r.val b.val (by omega) (by omega)]
    exact if_congr (by unfold Near keyRow; simp only []; omega) rfl rfl

variable (m : (ℓ : Loc nD τ sig) → Buf (Elt Ideal) ℓ)

theorem row_idx (q : Fin 8) (r : Fin 128) (n : Fin 1024) : (rowR q).toLoadRect.idx (ix2 r n) = ix2 ⟨128 * q.val + r.val, row_lt q r⟩ n := by
  funext a; apply Fin.ext
  match a with
  | ⟨0, _⟩ => show 128 * q.val + 1 * r.val = 128 * q.val + r.val; omega
  | ⟨1, _⟩ => show 0 + 1 * n.val = n.val; omega

theorem band_lt (q : Fin 8) (b : Fin 384) : min (128 * q.val - 128) 640 + b.val < 1024 := by omega

theorem band_idx (q : Fin 8) (b : Fin 384) (n : Fin 1024) : (bandR q).toLoadRect.idx (ix2 b n) = ix2 ⟨min (128 * q.val - 128) 640 + b.val, band_lt q b⟩ n := by
  funext a; apply Fin.ext
  match a with
  | ⟨0, _⟩ => show min (128 * q.val - 128) 640 + 1 * b.val = min (128 * q.val - 128) 640 + b.val; omega
  | ⟨1, _⟩ => show 0 + 1 * n.val = n.val; omega

theorem last_idx (b : Fin 256) (n : Fin 1024) : lastR.toLoadRect.idx (ix2 b n) = ix2 ⟨768 + b.val, by omega⟩ n := by
  funext a; apply Fin.ext
  match a with
  | ⟨0, _⟩ => show 768 + 1 * b.val = 768 + b.val; omega
  | ⟨1, _⟩ => show 0 + 1 * n.val = n.val; omega

/-- Row r of device c's block is row 1024 c + r of the whole. -/
theorem block_at (W : FVec Ideal ⟨2, ![8192, 1024]⟩ .f32) (c : Fin 8) (r n : Fin 1024) :
    (Layout.block ⟨2, ![1024, 1024]⟩ ⟨2, ![8192, 1024]⟩ 0 8 c W : FVec Ideal S1024x1024 .f32) (ix2 r n) = W (ix2 ⟨1024 * c.val + r.val, by omega⟩ n) := by
  rw [Layout.block_apply]
  refine congrArg W ?_
  funext a; apply Fin.ext
  match a with
  | ⟨0, _⟩ => show c.val * 1024 + r.val = 1024 * c.val + r.val; omega
  | ⟨1, _⟩ => rfl

theorem qRows_apply (q : Fin 8) (r : Fin 128) (n : Fin 1024) : qRows m q (ix2 r n) = qC m (ix2 ⟨128 * q.val + r.val, row_lt q r⟩ n) := by
  unfold qRows
  rw [View.readAt_apply]
  show qC m ((rowR q).toLoadRect.idx (ix2 r n)) = _
  rw [row_idx]

theorem kh_apply (r : Fin 128) (n : Fin 1024) : khC m (ix2 r n) = kC m 1 (ix2 ⟨r.val, by omega⟩ n) := by
  unfold khC
  rw [View.read_apply]
  refine congrArg (kC m 1) ?_
  funext a; apply Fin.ext
  match a with
  | ⟨0, _⟩ => show 0 + 1 * r.val = r.val; omega
  | ⟨1, _⟩ => show 0 + 1 * n.val = n.val; omega

theorem vh_apply (r : Fin 128) (n : Fin 1024) : vhC m (ix2 r n) = vC m 1 (ix2 ⟨r.val, by omega⟩ n) := by
  unfold vhC
  rw [View.read_apply]
  refine congrArg (vC m 1) ?_
  funext a; apply Fin.ext
  match a with
  | ⟨0, _⟩ => show 0 + 1 * r.val = r.val; omega
  | ⟨1, _⟩ => show 0 + 1 * n.val = n.val; omega

theorem kBand_apply (W : FVec Ideal ⟨2, ![8192, 1024]⟩ .f32) (hW : ∀ c : Dev nD, kC m c = Layout.block ⟨2, ![1024, 1024]⟩ ⟨2, ![8192, 1024]⟩ 0 8 c W)
    (q : Fin 8) (b : Fin 384) (n : Fin 1024) : kBand m q (ix2 b n) = W (ix2 (keyRow q b) n) := by
  unfold kBand
  by_cases hq : q = 7
  · subst hq
    rw [if_pos rfl, pay105_apply]
    split
    · rename_i h
      rw [View.readAt_apply]
      show kC m 0 (lastR.toLoadRect.idx (ix2 ⟨b.val, h⟩ n)) = _
      rw [last_idx, hW 0, block_at]
      exact congrArg (fun r => W (ix2 r n)) (Fin.ext (by show 1024 * 0 + (768 + b.val) = 128 * 7 - 128 + b.val; omega))
    · rename_i h
      rw [kh_apply, hW 1, block_at]
      exact congrArg (fun r => W (ix2 r n)) (Fin.ext (by show 1024 * 1 + (b.val - 256) = 128 * 7 - 128 + b.val; omega))
  · have hq' : q.val < 7 := by have : q.val ≠ 7 := fun h => hq (Fin.ext h); omega
    rw [if_neg hq, pay4_apply, View.readAt_apply]
    show kC m 0 ((bandR q).toLoadRect.idx (ix2 b n)) = _
    rw [band_idx q b n, hW 0, block_at]
    exact congrArg (fun r => W (ix2 r n)) (Fin.ext (by show 1024 * 0 + (min (128 * q.val - 128) 640 + b.val) = 128 * q.val - 128 + b.val; omega))

theorem vBand_apply (W : FVec Ideal ⟨2, ![8192, 1024]⟩ .f32) (hW : ∀ c : Dev nD, vC m c = Layout.block ⟨2, ![1024, 1024]⟩ ⟨2, ![8192, 1024]⟩ 0 8 c W)
    (q : Fin 8) (b : Fin 384) (n : Fin 1024) : vBand m q (ix2 b n) = W (ix2 (keyRow q b) n) := by
  unfold vBand
  by_cases hq : q = 7
  · subst hq
    rw [if_pos rfl, pay106_apply]
    split
    · rename_i h
      rw [View.readAt_apply]
      show vC m 0 (lastR.toLoadRect.idx (ix2 ⟨b.val, h⟩ n)) = _
      rw [last_idx, hW 0, block_at]
      exact congrArg (fun r => W (ix2 r n)) (Fin.ext (by show 1024 * 0 + (768 + b.val) = 128 * 7 - 128 + b.val; omega))
    · rename_i h
      rw [vh_apply, hW 1, block_at]
      exact congrArg (fun r => W (ix2 r n)) (Fin.ext (by show 1024 * 1 + (b.val - 256) = 128 * 7 - 128 + b.val; omega))
  · have hq' : q.val < 7 := by have : q.val ≠ 7 := fun h => hq (Fin.ext h); omega
    rw [if_neg hq, pay5_apply, View.readAt_apply]
    show vC m 0 ((bandR q).toLoadRect.idx (ix2 b n)) = _
    rw [band_idx q b n, hW 0, block_at]
    exact congrArg (fun r => W (ix2 r n)) (Fin.ext (by show 1024 * 0 + (min (128 * q.val - 128) 640 + b.val) = 128 * q.val - 128 + b.val; omega))

/-- One element of a block of the result. -/
theorem outC_apply (i n : Fin 1024) : outC m (ix2 i n) = ∑ c : Fin 1024, sliceC m ⟨i.val / 128, by omega⟩ (ix2 ⟨i.val % 128, by omega⟩ c) * woC m ⟨i.val / 128, col_div i⟩ (ix2 c n) := by
  show outB m ⟨i.val / 128, _⟩ (ValueIdx.ix2 (n0 := 128) (n1 := 1024) ⟨i.val % 128, _⟩ n) = _
  rw [← ix2_eq_valueIdx]
  unfold outB
  rw [pay194_apply]

theorem sliceC_apply (q : Fin 8) (r : Fin 128) (n : Fin 1024) : sliceC m q (ix2 r n) =
    Ideal.div (∑ b : Fin 384, headW (maskC q) (qRows m q) (kBand m q) ⟨n.val / 128, by omega⟩ (ix2 r b) * vBand m q (ix2 b n))
      (∑ b : Fin 384, headW (maskC q) (qRows m q) (kBand m q) ⟨n.val / 128, by omega⟩ (ix2 r b)) := by
  show headQ m q ⟨n.val / 128, _⟩ (ValueIdx.ix2 (n0 := 128) (n1 := 128) r ⟨n.val % 128, _⟩) = _
  rw [← ix2_eq_valueIdx]
  unfold headQ
  rw [headC_apply]
  have e : (⟨128 * (n.val / 128) + n.val % 128, by omega⟩ : Fin 1024) = n := Fin.ext (Nat.div_add_mod _ _)
  simp only [e]

end Cert.KI

end
-- ==== Proof.RIPure.lean ====
module

public import proofs.«01_k».proof.Proof.Gen.ReferenceIdeal.Run
public import Idealize.ShloMosaic.Lib.Pointwise
public import proofs.«01_k».proof.Proof.Near

@[expose] public section

noncomputable section

namespace Cert.RI

open Cert.ReferenceIdeal Cert.ReferenceIdeal.Gen Cert.ReferenceIdeal.Value
open Idealize.ShloMosaic
open Idealize.ShloMosaic.TcCoe
open Cert.Attn

/-! ## The reference's term in pieces -/

/-- Which keys a query sees: those no further than 128 rows away. -/
def maskR : IVec S1024x8192 1 :=
  cmpi .sle (absi (subi (broadcastInDim S1024x8192 ![0, 1] bcast_S1024x1_S1024x8192_0_1 (broadcastInDim S1024x1 ![0] bcast_S1024_S1024x1_0 (iotaInDim S1024 32 0)))
    (broadcastInDim S1024x8192 ![0, 1] bcast_S1x8192_S1024x8192_0_1 (broadcastInDim S1x8192 ![1] bcast_S8192_S1x8192_1 (iotaInDim S8192 32 0)))))
    (broadcastInDim S1024x8192 ![] bcast_S_S1024x8192 (constantI S_ 32 128#32))

/-- Which queries see any key. -/
def keepR : IVec S1024 1 := Host.reduce IntOp.ori maskR (constantI S_ 1 0#1) reducesTo_S1024x8192_S1024_d1 h_S_

/-- The scaled, masked scores by head, query and key. -/
def scoreR (x wq : FVec Ideal S1024x1024 .f32) (k : FVec Ideal S8192x1024 .f32) : FVec Ideal S8x1024x8192 .f32 :=
  select (broadcastInDim S8x1024x8192 ![0, 1, 2] bcast_S1x1024x8192_S8x1024x8192_0_1_2 (broadcastInDim S1x1024x8192 ![1, 2] bcast_S1024x8192_S1x1024x8192_1_2 maskR))
    (mulf (Host.dotGeneral dot_S1024x8x128_S8192x8x128_S8x1024x8192_2_2_0_0_1_1 none (shapeCast _ (Host.dotGeneral dot_S1024x1024_S1024x1024_S1024x1024_1_0_0_1_n_n none x wq) shapeCasts_S1024x1024_S1024x8x128)
      (shapeCast _ k shapeCasts_S8192x1024_S8192x8x128)) (broadcastInDim S8x1024x8192 ![] bcast_S_S8x1024x8192 (constant S_ .f32 0x3DB504F3#32)))
    (broadcastInDim S8x1024x8192 ![] bcast_S_S8x1024x8192 (id (constant S_ .f32 0xFF800000#32)))

/-- Each query's greatest score. -/
def maxR (s : FVec Ideal S8x1024x8192 .f32) : FVec Ideal S8x1024 .f32 :=
  Host.reduce FloatOps.maximumf s (constant S_ .f32 0xFF800000#32) reducesTo_S8x1024x8192_S8x1024_d2 h_S_

def expR (s : FVec Ideal S8x1024x8192 .f32) : FVec Ideal S8x1024x8192 .f32 :=
  Host.exp (subf s (broadcastInDim S8x1024x8192 ![0, 1, 2] bcast_S8x1024x1_S8x1024x8192_0_1_2 (broadcastInDim S8x1024x1 ![0, 1] bcast_S8x1024_S8x1024x1_0_1 (maxR s))))

/-- The weights: the exponentials over their sum. -/
def weightR (kp : IVec S1024 1) (e : FVec Ideal S8x1024x8192 .f32) : FVec Ideal S8x1024x8192 .f32 :=
  select (broadcastInDim S8x1024x8192 ![0, 1, 2] bcast_S1x1024x1_S8x1024x8192_0_1_2 (broadcastInDim S1x1024x1 ![1] bcast_S1024_S1x1024x1_1 kp))
    (Host.divf e (broadcastInDim S8x1024x8192 ![0, 1, 2] bcast_S8x1024x1_S8x1024x8192_0_1_2
      (select (broadcastInDim S8x1024x1 ![0, 1, 2] bcast_S1x1024x1_S8x1024x1_0_1_2 (broadcastInDim S1x1024x1 ![1] bcast_S1024_S1x1024x1_1 kp))
        (broadcastInDim S8x1024x1 ![0, 1] bcast_S8x1024_S8x1024x1_0_1 (Host.reduceAdd e (constant S_ .f32 0x00000000#32) reducesTo_S8x1024x8192_S8x1024_d2 h_S_))
        (broadcastInDim S8x1024x1 ![] bcast_S_S8x1024x1 (constant S_ .f32 0x3F800000#32)))))
    (broadcastInDim S8x1024x8192 ![] bcast_S_S8x1024x8192 (constant S_ .f32 0x00000000#32))

/-- The context, the heads side by side; the result. -/
def ctxR (w : FVec Ideal S8x1024x8192 .f32) (v : FVec Ideal S8192x1024 .f32) : FVec Ideal S1024x1024 .f32 :=
  shapeCast _ (transpose S1024x8x128 [2, 0, 1] (Host.dotGeneral dot_S8192x8x128_S8x1024x8192_S8x128x1024_0_2_2_1_1_0 none (shapeCast _ v shapeCasts_S8192x1024_S8192x8x128) w) transposes_S8x128x1024_S1024x8x128_2_0_1) shapeCasts_S1024x8x128_S1024x1024
def outR (c wo : FVec Ideal S1024x1024 .f32) : FVec Ideal S1024x1024 .f32 :=
  Host.dotGeneral dot_S1024x1024_S1024x1024_S1024x1024_1_0_0_1_n_n none c wo

/-! ## Each piece at an index -/

theorem col_lt (h : Fin 8) (d : Fin 128) : h.val * 128 + d.val < 1024 := by omega

theorem neg_inf : Ideal.ofBits .f32 0xFF800000#32 = ⊥ := by simp [Ideal.ofBits, Ideal.ieee]

theorem mask_apply (i : Fin 1024) (j : Fin 8192) : maskR (ix2 i j) = if Near i.val j.val then 1#1 else 0#1 := by
  rw [← near_eq i.val j.val (by omega) (by omega)]
  pointwise [maskR]

/-- The score of query i and key j in head h. -/
def scoreAt (q : Fin 1024 → Fin 1024 → EReal) (k : Fin 8192 → Fin 1024 → EReal) (h : Fin 8) (i : Fin 1024) (j : Fin 8192) : EReal :=
  if Near i.val j.val then (∑ d : Fin 128, q i ⟨h.val * 128 + d.val, col_lt h d⟩ * k j ⟨h.val * 128 + d.val, col_lt h d⟩) * Ideal.ofBits .f32 0x3DB504F3#32 else ⊥

theorem score_apply (x wq : FVec Ideal S1024x1024 .f32) (k : FVec Ideal S8192x1024 .f32) (h : Fin 8) (i : Fin 1024) (j : Fin 8192) :
    scoreR x wq k (ix3 h i j) = scoreAt (fun i n => ∑ c : Fin 1024, x (ix2 i c) * wq (ix2 c n)) (fun j n => k (ix2 j n)) h i j := by
  pointwise [scoreR]
  rw [mask_apply, show (id (constant (F := Ideal) S_ FTy.f32 0xFF800000#32) ix0 : EReal) = ⊥ from neg_inf]
  unfold scoreAt
  by_cases hn : Near i.val j.val
  · rw [if_pos hn, if_pos hn]; rfl
  · rw [if_neg hn, if_neg hn]; rfl

theorem max_apply (s : FVec Ideal S8x1024x8192 .f32) (h : Fin 8) (i : Fin 1024) :
    maxR s (ix2 h i) = Finset.univ.fold max ⊥ (fun j : Fin 8192 => s (ix3 h i j)) := by
  pointwise [maxR]
  rw [neg_inf]

theorem exp_apply (s : FVec Ideal S8x1024x8192 .f32) (h : Fin 8) (i : Fin 1024) (j : Fin 8192) :
    expR s (ix3 h i j) = Ideal.exp (s (ix3 h i j) - maxR s (ix2 h i)) := by
  pointwise [expR]

theorem keep_apply (i : Fin 1024) : keepR (ix1 i) = 1#1 := by
  pointwise [keepR]
  have h1 : ∀ a b : BitVec 1, IntOp.ori a b = 1#1 ↔ a = 1#1 ∨ b = 1#1 := by decide
  have hm : maskR (ix2 i ⟨i.val, by omega⟩) = 1#1 := by
    rw [mask_apply]
    exact if_pos ⟨Nat.le_add_right _ _, Nat.le_add_right _ _⟩
  have hmem : (⟨i.val, by omega⟩ : Fin 8192) ∈ (Finset.univ : Finset (Fin 8192)) := Finset.mem_univ _
  rw [← Finset.insert_erase hmem, Finset.fold_insert (Finset.notMem_erase _ _), h1]
  exact Or.inl hm

theorem weight_apply (kp : IVec S1024 1) (e : FVec Ideal S8x1024x8192 .f32) (h : Fin 8) (i : Fin 1024) (j : Fin 8192) (hk : kp (ix1 i) = 1#1) :
    weightR kp e (ix3 h i j) = Ideal.div (e (ix3 h i j)) (∑ j' : Fin 8192, e (ix3 h i j')) := by
  pointwise [weightR, hk]

theorem ctx_apply (w : FVec Ideal S8x1024x8192 .f32) (v : FVec Ideal S8192x1024 .f32) (i n : Fin 1024) :
    ctxR w v (ix2 i n) = ∑ j : Fin 8192, v (ix2 j n) * w (ix3 ⟨n.val / 128, by omega⟩ i j) := by
  pointwise [ctxR]

theorem out_apply (c wo : FVec Ideal S1024x1024 .f32) (i n : Fin 1024) :
    outR c wo (ix2 i n) = ∑ d : Fin 1024, c (ix2 i d) * wo (ix2 d n) := by
  pointwise [outR]

theorem res_eq (m : (ℓ : Loc nD τ sig) → Buf (Elt Ideal) ℓ) (c : Dev nD) :
    res_main_v36 (F := Ideal) m c = outR (ctxR (weightR keepR (expR (scoreR (m ((c.tc : Thread nD τ).loc main_arg0)) (m ((c.tc : Thread nD τ).loc main_arg1)) (m ((c.tc : Thread nD τ).loc main_arg2)))))
      (m ((c.tc : Thread nD τ).loc main_arg3))) (m ((c.tc : Thread nD τ).loc main_arg4)) := by
  unfold res_main_v36 outR ctxR weightR keepR expR maxR scoreR maskR
  rfl

end Cert.RI

end
-- ==== Proof.Soft.lean ====
module

public import Idealize.ShloMosaic.PureOps.Ideal

@[expose] public section

noncomputable section

namespace Cert.Attn

open Idealize.ShloMosaic

/-! ## The weighted mean of the softmax: a constant taken from every score changes nothing, scores at minus infinity count for nothing -/

theorem sum_mul_coe {B : Type*} (t : Finset B) (f : B → EReal) (r : ℝ) (hr : 0 ≤ r) :
    ∑ b ∈ t, f b * (r : EReal) = (∑ b ∈ t, f b) * (r : EReal) := by
  classical
  induction t using Finset.induction_on with
  | empty => simp
  | insert a u ha ih =>
    rw [Finset.sum_insert ha, Finset.sum_insert ha, ih,
      EReal.right_distrib_of_nonneg_of_ne_top (EReal.coe_nonneg.2 hr) (EReal.coe_ne_top r)]

theorem coe_sum {B : Type*} (t : Finset B) (f : B → ℝ) : ∑ b ∈ t, (f b : EReal) = ((∑ b ∈ t, f b : ℝ) : EReal) := by
  classical
  induction t using Finset.induction_on with
  | empty => simp
  | insert a u ha ih => rw [Finset.sum_insert ha, Finset.sum_insert ha, ih, EReal.coe_add]

/-- The exponential of a score, as a real number. -/
def ex (x : EReal) : ℝ := (Ideal.exp x).toReal

theorem ex_bot : ex ⊥ = 0 := by simp [ex]
theorem ex_coe (r : ℝ) : ex (r : EReal) = Real.exp r := by simp [ex]
theorem ex_nonneg (x : EReal) : 0 ≤ ex x := by
  induction x with
  | bot => rw [ex_bot]
  | top => simp [ex]
  | coe r => rw [ex_coe]; exact (Real.exp_pos r).le
theorem ex_pos {x : EReal} (h : x ≠ ⊥) (h' : x ≠ ⊤) : 0 < ex x := by
  induction x with
  | bot => exact absurd rfl h
  | top => exact absurd rfl h'
  | coe r => rw [ex_coe]; exact Real.exp_pos r
theorem exp_eq {x : EReal} (h' : x ≠ ⊤) : Ideal.exp x = (ex x : EReal) := by
  induction x with
  | bot => rw [ex_bot]; simp
  | top => exact absurd rfl h'
  | coe r => rw [ex_coe]; rfl
theorem exp_sub {x : EReal} (h' : x ≠ ⊤) (M : ℝ) : Ideal.exp (x - (M : EReal)) = ((ex x * Real.exp (-M) : ℝ) : EReal) := by
  induction x with
  | bot => rw [ex_bot, EReal.bot_sub]; simp
  | top => exact absurd rfl h'
  | coe r => rw [ex_coe, ← EReal.coe_sub, Ideal.exp_coe, ← Real.exp_add, sub_eq_add_neg]

theorem soft {J B : Type*} [Fintype J] [Fintype B] (s v : J → EReal) (M : ℝ) (e : B → J) (he : Function.Injective e)
    (hoff : ∀ j, j ∉ Set.range e → s j = ⊥) (htop : ∀ j, s j ≠ ⊤) (j₀ : J) (hj₀ : s j₀ ≠ ⊥) :
    ∑ j, v j * Ideal.div (Ideal.exp (s j - (M : EReal))) (∑ k, Ideal.exp (s k - (M : EReal)))
      = Ideal.div (∑ b, Ideal.exp (s (e b)) * v (e b)) (∑ b, Ideal.exp (s (e b))) := by
  have hL : 0 < ∑ j, ex (s j) :=
    Finset.sum_pos' (fun j _ => ex_nonneg _) ⟨j₀, Finset.mem_univ _, ex_pos hj₀ (htop _)⟩
  have hc : 0 < Real.exp (-M) := Real.exp_pos _
  have hsum : ∑ k, Ideal.exp (s k - (M : EReal)) = (((∑ j, ex (s j)) * Real.exp (-M) : ℝ) : EReal) := by
    rw [Finset.sum_congr rfl fun k _ => exp_sub (htop k) M, coe_sum, Finset.sum_mul]
  have hband : ∑ b, Ideal.exp (s (e b)) = ((∑ j, ex (s j) : ℝ) : EReal) := by
    rw [Finset.sum_congr rfl fun b _ => exp_eq (htop (e b)), coe_sum]
    exact congrArg _ (Fintype.sum_of_injective e he _ _ (fun j hj => by rw [hoff j hj, ex_bot]) fun _ => rfl)
  have hterm : ∀ j, v j * Ideal.div (Ideal.exp (s j - (M : EReal))) (∑ k, Ideal.exp (s k - (M : EReal)))
      = (Ideal.exp (s j) * v j) * ((1 / ∑ j, ex (s j) : ℝ) : EReal) := by
    intro j
    have hr : ex (s j) * Real.exp (-M) * (1 / ((∑ j, ex (s j)) * Real.exp (-M))) = ex (s j) * (1 / ∑ j, ex (s j)) := by
      field_simp
    rw [hsum, Ideal.div_coe (by positivity), exp_sub (htop j), exp_eq (htop j), ← EReal.coe_mul, hr, EReal.coe_mul, ← mul_assoc,
      mul_comm (v j)]
  rw [Finset.sum_congr rfl fun j _ => hterm j, hband, Ideal.div_coe hL.ne', ← sum_mul_coe _ _ _ (by positivity)]
  exact (Fintype.sum_of_injective e he _ _ (fun j hj => by rw [hoff j hj]; simp) fun _ => rfl).symm

/-- The greatest of finitely many scores, none of them infinite and one of them not minus infinity, is a real number. -/
theorem fold_max_real {J : Type*} [Fintype J] (s : J → EReal) (htop : ∀ j, s j ≠ ⊤) (j₀ : J) (hj₀ : s j₀ ≠ ⊥) :
    ∃ M : ℝ, Finset.univ.fold max ⊥ s = (M : EReal) := by
  have h1 : Finset.univ.fold max ⊥ s ≠ ⊤ := by
    refine ne_of_lt ((Finset.fold_max_lt ⊤).2 ⟨bot_lt_top, fun j _ => lt_top_iff_ne_top.2 (htop j)⟩)
  have h2 : Finset.univ.fold max ⊥ s ≠ ⊥ := by
    refine ne_of_gt ((Finset.lt_fold_max ⊥).2 (Or.inr ⟨j₀, Finset.mem_univ _, bot_lt_iff_ne_bot.2 hj₀⟩))
  exact ⟨_, (EReal.coe_toReal h1 h2).symm⟩

end Cert.Attn

end
-- ==== Proof.Bridge.lean ====
module

public import proofs.«01_k».proof.Defs
public import proofs.«01_k».proof.Proof.KIPure
public import proofs.«01_k».proof.Proof.RIPure
public import proofs.«01_k».proof.Proof.Soft

@[expose] public section

noncomputable section

namespace Cert.Bridge

open Idealize.ShloMosaic
open Idealize.ShloMosaic.TcCoe
open Cert.Attn

/-! ## Finite values stay finite -/

def Real' (x : EReal) : Prop := ∃ r : ℝ, x = (r : EReal)

theorem real_mul {x y : EReal} : Real' x → Real' y → Real' (x * y) := by
  rintro ⟨a, rfl⟩ ⟨b, rfl⟩; exact ⟨a * b, (EReal.coe_mul a b).symm⟩

theorem real_sum {B : Type*} [Fintype B] (f : B → EReal) (h : ∀ b, Real' (f b)) : Real' (∑ b, f b) := by
  choose g hg using h
  exact ⟨∑ b, g b, by rw [← coe_sum]; exact Finset.sum_congr rfl fun b _ => hg b⟩

theorem real_ne_top {x : EReal} : Real' x → x ≠ ⊤ := by rintro ⟨a, rfl⟩; exact EReal.coe_ne_top a
theorem real_ne_bot {x : EReal} : Real' x → x ≠ ⊥ := by rintro ⟨a, rfl⟩; exact EReal.coe_ne_bot a

theorem real_scale : Real' (Ideal.ofBits .f32 0x3DB504F3#32) := by
  simp only [Ideal.ofBits, Ideal.ieee]
  simp
  exact ⟨_, rfl⟩

/-- What the precondition says of one element: its absolute value is below infinity. -/
theorem real_of_abs_lt {x : EReal} (h : max x (-x) < ⊤) : Real' x := by
  induction x with
  | bot => simp at h
  | top => simp at h
  | coe r => exact ⟨r, rfl⟩

/-! ## The scores -/

section Score

variable (q : Fin 1024 → Fin 1024 → EReal) (k : Fin 8192 → Fin 1024 → EReal) (h : Fin 8) (i : Fin 1024)

theorem score_real (hq : ∀ i n, Real' (q i n)) (hk : ∀ j n, Real' (k j n)) (j : Fin 8192) (hn : Near i.val j.val) : Real' (Cert.RI.scoreAt q k h i j) := by
  unfold Cert.RI.scoreAt
  rw [if_pos hn]
  exact real_mul (real_sum _ fun d => real_mul (hq _ _) (hk _ _)) real_scale

theorem score_bot (j : Fin 8192) (hn : ¬ Near i.val j.val) : Cert.RI.scoreAt q k h i j = ⊥ := by
  unfold Cert.RI.scoreAt
  rw [if_neg hn]

theorem score_ne_top (hq : ∀ i n, Real' (q i n)) (hk : ∀ j n, Real' (k j n)) (j : Fin 8192) : Cert.RI.scoreAt q k h i j ≠ ⊤ := by
  by_cases hn : Near i.val j.val
  · exact real_ne_top (score_real q k h i hq hk j hn)
  · rw [score_bot q k h i j hn]; exact bot_ne_top

end Score

theorem keyRow_injective (q : Fin 8) : Function.Injective (Cert.KI.keyRow q) := fun a b e => by
  have := congrArg Fin.val e
  unfold Cert.KI.keyRow at this
  simp only [] at this
  exact Fin.ext (by omega)

/-- A key outside the band of a query's row block is in no window of the block's queries. -/
theorem off_band (i : Fin 1024) (hq : i.val / 128 < 8) (j : Fin 8192) (hj : j ∉ Set.range (Cert.KI.keyRow ⟨i.val / 128, hq⟩)) : ¬ Near i.val j.val := by
  intro ⟨h1, h2⟩
  refine hj ⟨⟨j.val - (128 * (i.val / 128) - 128), by omega⟩, Fin.ext ?_⟩
  show 128 * (i.val / 128) - 128 + (j.val - (128 * (i.val / 128) - 128)) = j.val
  omega

/-! ## The two results -/

section Value

variable (x wq : FVec Ideal ⟨2, ![1024, 1024]⟩ .f32) (k v : FVec Ideal ⟨2, ![8192, 1024]⟩ .f32)

def qAt (i n : Fin 1024) : EReal := ∑ c : Fin 1024, x (ix2 i c) * wq (ix2 c n)
def sAt (h : Fin 8) (i : Fin 1024) (j : Fin 8192) : EReal := Cert.RI.scoreAt (qAt x wq) (fun j n => k (ix2 j n)) h i j

/-- One element of the context, over the keys of the band alone. -/
def ctxAt (i n : Fin 1024) : EReal :=
  Ideal.div (∑ b : Fin 384, Ideal.exp (sAt x wq k ⟨n.val / 128, Cert.KI.col_div n⟩ i (Cert.KI.keyRow ⟨i.val / 128, Cert.KI.col_div i⟩ b)) * v (ix2 (Cert.KI.keyRow ⟨i.val / 128, Cert.KI.col_div i⟩ b) n))
    (∑ b : Fin 384, Ideal.exp (sAt x wq k ⟨n.val / 128, Cert.KI.col_div n⟩ i (Cert.KI.keyRow ⟨i.val / 128, Cert.KI.col_div i⟩ b)))

/-- The reference's context. -/
theorem ref_ctx (hx : ∀ i, Real' (x i)) (hwq : ∀ i, Real' (wq i)) (hk : ∀ i, Real' (k i)) (i n : Fin 1024) :
    Cert.RI.ctxR (Cert.RI.weightR Cert.RI.keepR (Cert.RI.expR (Cert.RI.scoreR x wq k))) v (ix2 i n) = ctxAt x wq k v i n := by
  have hq : ∀ i n, Real' (qAt x wq i n) := fun i n => real_sum _ fun c => real_mul (hx _) (hwq _)
  have hs : ∀ h j, Cert.RI.scoreR x wq k (ix3 h i j) = sAt x wq k h i j := fun h j => Cert.RI.score_apply x wq k h i j
  have htop : ∀ h j, sAt x wq k h i j ≠ ⊤ := fun h j => score_ne_top _ _ h i hq (fun _ _ => hk _) j
  have hbot : ∀ h, sAt x wq k h i ⟨i.val, by omega⟩ ≠ ⊥ := fun h =>
    real_ne_bot (score_real _ _ h i hq (fun _ _ => hk _) _ ⟨Nat.le_add_right _ _, Nat.le_add_right _ _⟩)
  obtain ⟨M, hM⟩ := fold_max_real (sAt x wq k ⟨n.val / 128, Cert.KI.col_div n⟩ i) (htop _) _ (hbot _)
  have hmax : Cert.RI.maxR (Cert.RI.scoreR x wq k) (ix2 ⟨n.val / 128, Cert.KI.col_div n⟩ i) = (M : EReal) := by
    rw [Cert.RI.max_apply, ← hM]
    exact congrArg (fun f => Finset.univ.fold max ⊥ f) (funext fun j => hs _ j)
  have he : ∀ j, Cert.RI.expR (Cert.RI.scoreR x wq k) (ix3 ⟨n.val / 128, Cert.KI.col_div n⟩ i j) = Ideal.exp (sAt x wq k ⟨n.val / 128, Cert.KI.col_div n⟩ i j - (M : EReal)) := fun j => by
    rw [Cert.RI.exp_apply, hmax, hs]
  rw [Cert.RI.ctx_apply]
  refine Eq.trans (Finset.sum_congr rfl fun j _ => ?_) (soft (sAt x wq k ⟨n.val / 128, Cert.KI.col_div n⟩ i) (fun j => v (ix2 j n)) M
    (Cert.KI.keyRow ⟨i.val / 128, Cert.KI.col_div i⟩) (keyRow_injective _) (fun j hj => score_bot _ _ _ i j (off_band i _ j hj)) (htop _) _ (hbot _))
  rw [Cert.RI.weight_apply _ _ _ _ _ (Cert.RI.keep_apply i), he j, Finset.sum_congr rfl fun j' _ => he j']

/-- The kernel's context: a block's rows. -/
theorem ker_ctx (m : (ℓ : Loc Cert.KernelIdeal.nD Cert.KernelIdeal.τ Cert.KernelIdeal.sig) → Buf (Elt Ideal) ℓ)
    (hx : Cert.KI.xC m = x) (hwq : Cert.KI.wqC m = wq)
    (hk : ∀ c : Dev Cert.KernelIdeal.nD, Cert.KI.kC m c = Layout.block ⟨2, ![1024, 1024]⟩ ⟨2, ![8192, 1024]⟩ 0 8 c k)
    (hv : ∀ c : Dev Cert.KernelIdeal.nD, Cert.KI.vC m c = Layout.block ⟨2, ![1024, 1024]⟩ ⟨2, ![8192, 1024]⟩ 0 8 c v) (i n : Fin 1024) :
    Cert.KI.sliceC m ⟨i.val / 128, Cert.KI.col_div i⟩ (ix2 ⟨i.val % 128, Cert.KI.col_mod i⟩ n) = ctxAt x wq k v i n := by
  have hi : (⟨128 * (i.val / 128) + i.val % 128, by omega⟩ : Fin 1024) = i := Fin.ext (Nat.div_add_mod _ _)
  have hw : ∀ b : Fin 384, Cert.KI.headW (Cert.KI.maskC ⟨i.val / 128, Cert.KI.col_div i⟩) (Cert.KI.qRows m ⟨i.val / 128, Cert.KI.col_div i⟩) (Cert.KI.kBand m ⟨i.val / 128, Cert.KI.col_div i⟩)
      ⟨n.val / 128, Cert.KI.col_div n⟩ (ix2 ⟨i.val % 128, Cert.KI.col_mod i⟩ b)
      = Ideal.exp (sAt x wq k ⟨n.val / 128, Cert.KI.col_div n⟩ i (Cert.KI.keyRow ⟨i.val / 128, Cert.KI.col_div i⟩ b)) := fun b => by
    have hq : ∀ n', Cert.KI.qRows m ⟨i.val / 128, Cert.KI.col_div i⟩ (ix2 ⟨i.val % 128, Cert.KI.col_mod i⟩ n') = qAt x wq i n' := fun n' => by
      rw [Cert.KI.qRows_apply]
      simp only [hi]
      unfold Cert.KI.qC
      rw [Cert.KI.pay1_apply, hx, hwq]
      rfl
    have hn : Near (128 * (⟨i.val / 128, Cert.KI.col_div i⟩ : Fin 8).val + (⟨i.val % 128, Cert.KI.col_mod i⟩ : Fin 128).val) (Cert.KI.keyRow ⟨i.val / 128, Cert.KI.col_div i⟩ b).val
        ↔ Near i.val (Cert.KI.keyRow ⟨i.val / 128, Cert.KI.col_div i⟩ b).val := by
      show Near (128 * (i.val / 128) + i.val % 128) _ ↔ _
      rw [Nat.div_add_mod]
    rw [Cert.KI.headW_apply, Cert.KI.maskC_apply]
    refine congrArg Ideal.exp ?_
    unfold sAt Cert.RI.scoreAt
    by_cases hb : Near i.val (Cert.KI.keyRow ⟨i.val / 128, Cert.KI.col_div i⟩ b).val
    · rw [if_pos (hn.2 hb), if_pos hb]
      refine congrArg (· * Ideal.ofBits .f32 0x3DB504F3#32) (Finset.sum_congr rfl fun d _ => ?_)
      rw [hq, Cert.KI.kBand_apply m k hk]
      have e : (⟨128 * (n.val / 128) + d.val, by omega⟩ : Fin 1024) = ⟨n.val / 128 * 128 + d.val, by omega⟩ := Fin.ext (by show 128 * (n.val / 128) + d.val = n.val / 128 * 128 + d.val; omega)
      simp only [e]
    · rw [if_neg (fun h => hb (hn.1 h)), if_neg hb]; rfl
  rw [Cert.KI.sliceC_apply]
  unfold ctxAt
  refine congrArg₂ Ideal.div (Finset.sum_congr rfl fun b _ => ?_) (Finset.sum_congr rfl fun b _ => hw b)
  rw [hw b, Cert.KI.vBand_apply m v hv]

end Value

/-! ## The claim's equation -/

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (x wq wo : FVec Ideal ⟨2, ![1024, 1024]⟩ .f32) (k v : FVec Ideal ⟨2, ![8192, 1024]⟩ .f32)
    (hx : Cert.KI.xC m = x) (hwq : Cert.KI.wqC m = wq)
    (hk : ∀ c : Dev Cert.KernelIdeal.nD, Cert.KI.kC m c = Layout.block ⟨2, ![1024, 1024]⟩ ⟨2, ![8192, 1024]⟩ 0 8 c k)
    (hv : ∀ c : Dev Cert.KernelIdeal.nD, Cert.KI.vC m c = Layout.block ⟨2, ![1024, 1024]⟩ ⟨2, ![8192, 1024]⟩ 0 8 c v)
    (hwo : ∀ c : Dev Cert.KernelIdeal.nD, Cert.KI.woC m c = wo)
    (fx : ∀ i, Real' (x i)) (fwq : ∀ i, Real' (wq i)) (fk : ∀ i, Real' (k i)) :
    Cert.KI.outC m = Cert.RI.outR (Cert.RI.ctxR (Cert.RI.weightR Cert.RI.keepR (Cert.RI.expR (Cert.RI.scoreR x wq k))) v) wo := by
  funext j
  obtain ⟨i, n, rfl⟩ : ∃ (i n : Fin 1024), j = ix2 i n := ⟨j 0, j 1, eq_ix2 j⟩
  rw [Cert.KI.outC_apply, Cert.RI.out_apply]
  refine Finset.sum_congr rfl fun c _ => ?_
  rw [ker_ctx x wq k v m hx hwq hk hv, ref_ctx x wq k v fx fwq fk, hwo]

/-- The precondition makes x, Wq and every device's block of K finite. -/
theorem pre_real (m : (ℓ : Loc Cert.KernelIdeal.nD Cert.KernelIdeal.τ Cert.KernelIdeal.sig) → Buf (Elt Ideal) ℓ) [hP : Cert.Pre_finite_KernelIdeal.Facts]
    (h : Cert.Pre_KernelIdeal_finite_KernelIdeal m) (c : Dev Cert.KernelIdeal.nD) (i : (⟨2, ![1024, 1024]⟩ : Shape).Idx) :
    Real' (m ((c.tc : Thread Cert.KernelIdeal.nD Cert.KernelIdeal.τ).loc Cert.KernelIdeal.main_arg0) i)
      ∧ Real' (m ((c.tc : Thread Cert.KernelIdeal.nD Cert.KernelIdeal.τ).loc Cert.KernelIdeal.main_arg1) i)
      ∧ Real' (m ((c.tc : Thread Cert.KernelIdeal.nD Cert.KernelIdeal.τ).loc Cert.KernelIdeal.main_arg2) i) := by
  have inf : Ideal.ofBits .f32 0x7F800000#32 = ⊤ := by simp [Ideal.ofBits, Ideal.ieee]
  have one : ∀ y : EReal, BitVec.ofBool (decide (max y (-y) < Ideal.ofBits .f32 0x7F800000#32)) = 1#1 → Real' y := fun y hy => by
    refine real_of_abs_lt ?_
    rw [inf] at hy
    by_contra hn
    rw [decide_eq_false hn] at hy
    exact absurd hy (by decide)
  obtain ⟨h0, h1, h2⟩ := h c
  exact ⟨one _ (congrFun h0 i), one _ (congrFun h1 i), one _ (congrFun h2 i)⟩

end Cert.Bridge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KPLaunch
public import proofs.«01_k».proof.Proof.KILaunch
public import proofs.«01_k».proof.Proof.Bridge
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The kernel runs on every mesh of eight devices, leaves its arguments alone and every counter at zero. -/
theorem frame_p : Cert.quiescent_Kernel := fun m ρ _ => Cert.KP.run_frame m ρ

/-- The same of the idealised kernel. -/
theorem frame_pi : Cert.quiescent_KernelIdeal := fun m ρ _ => Cert.KI.run_frame m ρ

/-- The reference runs and leaves its arguments alone; it has no counters. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's one named constant, the mask, is −∞ at the ideal instance. -/
theorem preserves : Cert.preserves_Kernel_KernelIdeal :=
  IdealRules.named_const.statement Cert.KernelIdeal.κ "mask" .f32 0xCE6E6B28#32 ⊥ rfl

theorem pre_facts_ki : Cert.Pre_finite_KernelIdeal.Facts := ⟨by decide⟩
theorem pre_facts_ri : Cert.Pre_finite_ReferenceIdeal.Facts := ⟨by decide, by decide⟩

/-- Over finite x, Wq and K every device's result is the reference's. -/
theorem algebraic : Cert.algebraic_KernelIdeal_ReferenceIdeal_pre_finite_KernelIdeal (hPre_finite_KernelIdeal := pre_facts_ki) := by
  intro m g m' g' hpre hargs
  have fin := Cert.Bridge.pre_real m (hP := pre_facts_ki) hpre
  have hk : ∀ c, Cert.KI.kC m c = _ := fun c => (Cert.KI.kC_eq m c).trans (hargs c).2.2.1
  have hv : ∀ c, Cert.KI.vC m c = _ := fun c => (Cert.KI.vC_eq m c).trans (hargs c).2.2.2.1
  have fk : ∀ i : (⟨2, ![8192, 1024]⟩ : Shape).Idx, Cert.Bridge.Real' (m' (((0 : Dev Cert.ReferenceIdeal.nD).tc : Thread Cert.ReferenceIdeal.nD Cert.ReferenceIdeal.τ).loc Cert.ReferenceIdeal.main_arg2) i) := by
    intro i
    obtain ⟨j, n, rfl⟩ : ∃ (j : Fin 8192) (n : Fin 1024), i = ix2 j n := ⟨i 0, i 1, eq_ix2 i⟩
    have h := (fin (⟨j.val / 1024, by omega⟩ : Fin 8) (ix2 ⟨j.val % 1024, by omega⟩ n)).2.2
    rw [(hargs (⟨j.val / 1024, by omega⟩ : Fin 8)).2.2.1] at h
    have e := Cert.KI.block_at (m' (((0 : Dev Cert.ReferenceIdeal.nD).tc : Thread Cert.ReferenceIdeal.nD Cert.ReferenceIdeal.τ).loc Cert.ReferenceIdeal.main_arg2)) ⟨j.val / 1024, by omega⟩ ⟨j.val % 1024, by omega⟩ n
    have hj : (⟨1024 * (j.val / 1024) + j.val % 1024, by omega⟩ : Fin 8192) = j := Fin.ext (Nat.div_add_mod _ _)
    simp only [hj] at e
    exact e ▸ h
  have key := Cert.Bridge.result_eq m m' _ _ _ _ _ ((Cert.KI.xC_eq m).trans (hargs (0 : Fin 8)).1) ((Cert.KI.wqC_eq m).trans (hargs (0 : Fin 8)).2.1) hk hv
    (fun c => (Cert.KI.woC_eq m c).trans (hargs c).2.2.2.2)
    (fun i => (hargs (0 : Fin 8)).1 ▸ (fin (0 : Fin 8) i).1) (fun i => (hargs (0 : Fin 8)).2.1 ▸ (fin (0 : Fin 8) i).2.1) fk
  refine ⟨Cert.ReferenceIdeal.Value.res_main_v36 (F := Ideal) m' 0, ?_, ?_⟩
  · refine (θ_run Cert.KernelIdeal.defs _ _).mono (fun r h c => ⟨(h c).1.trans ?_, (h c).2⟩) (Cert.KI.run_value m g)
    exact key.trans (Cert.RI.res_eq m' 0).symm
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, pre_facts_ki, pre_facts_ri,
    frame_p, frame_pi, fun m ρ _ => Cert.KI.run_frame m ρ, frame_ri, fun m ρ _ => frame_ri m ρ trivial, preserves, algebraic⟩

end Cert.Proof

end
